-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x20000x91 : Shape := ⟨3, ![8, 20000, 91]⟩
abbrev S8x20000x4 : Shape := ⟨3, ![8, 20000, 4]⟩
abbrev S8x20000x12 : Shape := ⟨3, ![8, 20000, 12]⟩
abbrev S8x2 : Shape := ⟨2, ![8, 2]⟩
abbrev S128x91 : Shape := ⟨2, ![128, 91]⟩
abbrev S160000x91 : Shape := ⟨2, ![160000, 91]⟩
abbrev S160000x12 : Shape := ⟨2, ![160000, 12]⟩
abbrev S160000x1 : Shape := ⟨2, ![160000, 1]⟩
abbrev S1000x91 : Shape := ⟨2, ![1000, 91]⟩
abbrev S1000x12 : Shape := ⟨2, ![1000, 12]⟩
abbrev S1000x1 : Shape := ⟨2, ![1000, 1]⟩
abbrev S1000x116 : Shape := ⟨2, ![1000, 116]⟩
abbrev S1000x128 : Shape := ⟨2, ![1000, 128]⟩
abbrev S1000 : Shape := ⟨1, ![1000]⟩
abbrev S8x20000 : Shape := ⟨2, ![8, 20000]⟩
abbrev S8x100 : Shape := ⟨2, ![8, 100]⟩
abbrev S8 : Shape := ⟨1, ![8]⟩
abbrev S8x1 : Shape := ⟨2, ![8, 1]⟩
abbrev S8x100x1 : Shape := ⟨3, ![8, 100, 1]⟩
abbrev S_ : Shape := ⟨0, ![]⟩
abbrev S1 : Shape := ⟨1, ![1]⟩
abbrev S1x1x1 : Shape := ⟨3, ![1, 1, 1]⟩
abbrev S8x100x91 : Shape := ⟨3, ![8, 100, 91]⟩
abbrev S8x100x4 : Shape := ⟨3, ![8, 100, 4]⟩
abbrev S91 : Shape := ⟨1, ![91]⟩
abbrev S1x1x91 : Shape := ⟨3, ![1, 1, 91]⟩
abbrev S8x9100 : Shape := ⟨2, ![8, 9100]⟩

abbrev nBuf : Space → Nat
  | .hbm => 73
  | .vmem => 20
  | .smem => 0
  | _ => 0

abbrev bufTy : (tb : Table) → Fin (tcTables nBuf tb) → BufTy
  | .hbm, ⟨0, _⟩ => ⟨S8x20000x91, .f32⟩
  | .hbm, ⟨1, _⟩ => ⟨S8x20000x4, .f32⟩
  | .hbm, ⟨2, _⟩ => ⟨S8x20000x12, .f32⟩
  | .hbm, ⟨3, _⟩ => ⟨S8x2, .i32⟩
  | .hbm, ⟨4, _⟩ => ⟨S128x91, .f32⟩
  | .hbm, ⟨5, _⟩ => ⟨S160000x91, .f32⟩
  | .hbm, ⟨6, _⟩ => ⟨S160000x12, .f32⟩
  | .hbm, ⟨7, _⟩ => ⟨S160000x91, .f32⟩
  | .hbm, ⟨8, _⟩ => ⟨S160000x1, .f32⟩
  | .hbm, ⟨9, _⟩ => ⟨S8x20000, .f32⟩
  | .hbm, ⟨10, _⟩ => ⟨S8x100, .i32⟩
  | .hbm, ⟨11, _⟩ => ⟨S8x20000x91, .f32⟩
  | .hbm, ⟨12, _⟩ => ⟨S8x100x1, .i32⟩
  | .hbm, ⟨13, _⟩ => ⟨S_, .i32⟩
  | .hbm, ⟨14, _⟩ => ⟨S8x100x1, .i32⟩
  | .hbm, ⟨15, _⟩ => ⟨S8x100x1, .i1⟩
  | .hbm, ⟨16, _⟩ => ⟨S_, .i32⟩
  | .hbm, ⟨17, _⟩ => ⟨S8x100x1, .i32⟩
  | .hbm, ⟨18, _⟩ => ⟨S8x100x1, .i32⟩
  | .hbm, ⟨19, _⟩ => ⟨S8x100x1, .i32⟩
  | .hbm, ⟨20, _⟩ => ⟨S1, .i32⟩
  | .hbm, ⟨21, _⟩ => ⟨S_, .i32⟩
  | .hbm, ⟨22, _⟩ => ⟨S8x100x1, .i32⟩
  | .hbm, ⟨23, _⟩ => ⟨S8x100x1, .i1⟩
  | .hbm, ⟨24, _⟩ => ⟨S1x1x1, .i32⟩
  | .hbm, ⟨25, _⟩ => ⟨S8x100x1, .i32⟩
  | .hbm, ⟨26, _⟩ => ⟨S8x100x1, .i1⟩
  | .hbm, ⟨27, _⟩ => ⟨S8x100x1, .i1⟩
  | .hbm, ⟨28, _⟩ => ⟨S_, .i1⟩
  | .hbm, ⟨29, _⟩ => ⟨S8x100, .i1⟩
  | .hbm, ⟨30, _⟩ => ⟨S8x100x91, .f32⟩
  | .hbm, ⟨31, _⟩ => ⟨S8x100x91, .i1⟩
  | .hbm, ⟨32, _⟩ => ⟨S_, .f32⟩
  | .hbm, ⟨33, _⟩ => ⟨S8x100x91, .f32⟩
  | .hbm, ⟨34, _⟩ => ⟨S8x100x91, .f32⟩
  | .hbm, ⟨35, _⟩ => ⟨S8x100x1, .i32⟩
  | .hbm, ⟨36, _⟩ => ⟨S_, .i32⟩
  | .hbm, ⟨37, _⟩ => ⟨S8x100x1, .i32⟩
  | .hbm, ⟨38, _⟩ => ⟨S8x100x1, .i1⟩
  | .hbm, ⟨39, _⟩ => ⟨S_, .i32⟩
  | .hbm, ⟨40, _⟩ => ⟨S8x100x1, .i32⟩
  | .hbm, ⟨41, _⟩ => ⟨S8x100x1, .i32⟩
  | .hbm, ⟨42, _⟩ => ⟨S8x100x1, .i32⟩
  | .hbm, ⟨43, _⟩ => ⟨S1, .i32⟩
  | .hbm, ⟨44, _⟩ => ⟨S_, .i32⟩
  | .hbm, ⟨45, _⟩ => ⟨S8x100x1, .i32⟩
  | .hbm, ⟨46, _⟩ => ⟨S8x100x1, .i1⟩
  | .hbm, ⟨47, _⟩ => ⟨S1x1x1, .i32⟩
  | .hbm, ⟨48, _⟩ => ⟨S8x100x1, .i32⟩
  | .hbm, ⟨49, _⟩ => ⟨S8x100x1, .i1⟩
  | .hbm, ⟨50, _⟩ => ⟨S8x100x1, .i1⟩
  | .hbm, ⟨51, _⟩ => ⟨S_, .i1⟩
  | .hbm, ⟨52, _⟩ => ⟨S8x100, .i1⟩
  | .hbm, ⟨53, _⟩ => ⟨S8x100x4, .f32⟩
  | .hbm, ⟨54, _⟩ => ⟨S8x100x4, .i1⟩
  | .hbm, ⟨55, _⟩ => ⟨S_, .f32⟩
  | .hbm, ⟨56, _⟩ => ⟨S8x100x4, .f32⟩
  | .hbm, ⟨57, _⟩ => ⟨S8x100x4, .f32⟩
  | .hbm, ⟨58, _⟩ => ⟨S8x100x1, .i32⟩
  | .hbm, ⟨59, _⟩ => ⟨S_, .i32⟩
  | .hbm, ⟨60, _⟩ => ⟨S8x100x1, .i32⟩
  | .hbm, ⟨61, _⟩ => ⟨S8x100x1, .i32⟩
  | .hbm, ⟨62, _⟩ => ⟨S91, .i32⟩
  | .hbm, ⟨63, _⟩ => ⟨S1x1x91, .i32⟩
  | .hbm, ⟨64, _⟩ => ⟨S8x100x91, .i32⟩
  | .hbm, ⟨65, _⟩ => ⟨S8x100x91, .i32⟩
  | .hbm, ⟨66, _⟩ => ⟨S8x100x91, .i32⟩
  | .hbm, ⟨67, _⟩ => ⟨S8x9100, .f32⟩
  | .hbm, ⟨68, _⟩ => ⟨S8x9100, .i32⟩
  | .hbm, ⟨69, _⟩ => ⟨S8x2, .f32⟩
  | .hbm, ⟨70, _⟩ => ⟨S8x100, .f32⟩
  | .hbm, ⟨71, _⟩ => ⟨S8x100, .i32⟩
  | .hbm, ⟨72, _⟩ => ⟨S8x100x4, .f32⟩
  | .local _ .vmem, ⟨0, _⟩ => ⟨S1000x91, .f32⟩
  | .local _ .vmem, ⟨1, _⟩ => ⟨S1000x91, .f32⟩
  | .local _ .vmem, ⟨2, _⟩ => ⟨S1000x12, .f32⟩
  | .local _ .vmem, ⟨3, _⟩ => ⟨S1000x12, .f32⟩
  | .local _ .vmem, ⟨4, _⟩ => ⟨S128x91, .f32⟩
  | .local _ .vmem, ⟨5, _⟩ => ⟨S1000x91, .f32⟩
  | .local _ .vmem, ⟨6, _⟩ => ⟨S1000x91, .f32⟩
  | .local _ .vmem, ⟨7, _⟩ => ⟨S1000x1, .f32⟩
  | .local _ .vmem, ⟨8, _⟩ => ⟨S1000x1, .f32⟩
  | .local _ .vmem, ⟨9, _⟩ => ⟨S8x20000, .f32⟩
  | .local _ .vmem, ⟨10, _⟩ => ⟨S8x100, .i32⟩
  | .local _ .vmem, ⟨11, _⟩ => ⟨S8x20000, .f32⟩
  | .local _ .vmem, ⟨12, _⟩ => ⟨S8x9100, .f32⟩
  | .local _ .vmem, ⟨13, _⟩ => ⟨S8x9100, .i32⟩
  | .local _ .vmem, ⟨14, _⟩ => ⟨S8x100x4, .f32⟩
  | .local _ .vmem, ⟨15, _⟩ => ⟨S8x2, .f32⟩
  | .local _ .vmem, ⟨16, _⟩ => ⟨S8x100, .f32⟩
  | .local _ .vmem, ⟨17, _⟩ => ⟨S8x100, .i32⟩
  | .local _ .vmem, ⟨18, _⟩ => ⟨S8x100x4, .f32⟩
  | .local _ .vmem, ⟨19, _⟩ => ⟨S8x9100, .f32⟩
  | _, _ => ⟨S8x20000x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_c_2 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_c_3 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v7 : Ref sig .tc := ⟨.hbm, 34, rfl⟩
abbrev main_v8 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_c_2 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_c_3 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v9 : Ref sig .tc := ⟨.hbm, 57, rfl⟩
abbrev main_v10 : Ref sig .tc := ⟨.hbm, 58, rfl⟩
abbrev main_c : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21_0 : Ref sig .tc := ⟨.hbm, 70, rfl⟩
abbrev main_v21_1 : Ref sig .tc := ⟨.hbm, 71, rfl⟩
abbrev main_v21_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x91 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x91 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

@[reducible] def k1_t1_loop : Scf.Loop 32 :=
  let c0_i32_3 : BitVec 32 := 0#32
  let c100_i32 : BitVec 32 := 100#32
  let v8 : BitVec 32 := Scalar.addi c0_i32_3 c100_i32
  let c1_i32 : BitVec 32 := 1#32
  ⟨c0_i32_3, v8, c1_i32⟩
abbrev stage1_0 : Fin 1 → Memref sig .tc .vmem S8x20000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x100 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := .none

@[reducible] def k2_t1_loop : Scf.Loop 32 :=
  let c0_i32_27 : BitVec 32 := 0#32
  let c100_i32 : BitVec 32 := 100#32
  let v67 : BitVec 32 := Scalar.addi c0_i32_27 c100_i32
  let c1_i32_28 : BitVec 32 := 1#32
  ⟨c0_i32_27, v67, c1_i32_28⟩
abbrev stage2_0 : Fin 1 → Memref sig .tc .vmem S8x9100 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x9100 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x100x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S8x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S8x100 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S8x100x4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
-- ==== ReferenceIdeal.lean ====
abbrev S8x20000x91 : Shape := ⟨3, ![8, 20000, 91]⟩
abbrev S8x20000x4 : Shape := ⟨3, ![8, 20000, 4]⟩
abbrev S8x20000x12 : Shape := ⟨3, ![8, 20000, 12]⟩
abbrev S8x2 : Shape := ⟨2, ![8, 2]⟩
abbrev S1 : Shape := ⟨1, ![1]⟩
abbrev S91 : Shape := ⟨1, ![91]⟩
abbrev S_ : Shape := ⟨0, ![]⟩
abbrev S1x1 : Shape := ⟨2, ![1, 1]⟩
abbrev S8x20000x1 : Shape := ⟨3, ![8, 20000, 1]⟩
abbrev S91x1 : Shape := ⟨2, ![91, 1]⟩
abbrev S8x1820000 : Shape := ⟨2, ![8, 1820000]⟩
abbrev S8x100 : Shape := ⟨2, ![8, 100]⟩
abbrev S8x20000 : Shape := ⟨2, ![8, 20000]⟩
abbrev S8x100x1 : Shape := ⟨3, ![8, 100, 1]⟩
abbrev S8x100x4 : Shape := ⟨3, ![8, 100, 4]⟩
abbrev S8x100x4x1 : Shape := ⟨4, ![8, 100, 4, 1]⟩
abbrev S1x1x1x1 : Shape := ⟨4, ![1, 1, 1, 1]⟩
abbrev S8x1 : Shape := ⟨2, ![8, 1]⟩
abbrev S8 : Shape := ⟨1, ![8]⟩
abbrev S8x4 : Shape := ⟨2, ![8, 4]⟩
abbrev S8x1x4 : Shape := ⟨3, ![8, 1, 4]⟩

abbrev nBuf : Space → Nat
  | .hbm => 158
  | .vmem => 0
  | .smem => 0
  | _ => 0

abbrev hbmTy0_0 (i : Nat) : BufTy := match i % 128 with
  | 0 => ⟨S8x20000x91, .f32⟩
  | 1 => ⟨S8x20000x4, .f32⟩
  | 2 => ⟨S8x20000x12, .f32⟩
  | 3 => ⟨S8x2, .i32⟩
  | 4 => ⟨S1, .i32⟩
  | 5 => ⟨S1, .i1⟩
  | 6 => ⟨S1, .i32⟩
  | 7 => ⟨S1, .i1⟩
  | 8 => ⟨S91, .i32⟩
  | 9 => ⟨S91, .i1⟩
  | 10 => ⟨S_, .i32⟩
  | 11 => ⟨S1, .i32⟩
  | 12 => ⟨S1, .i32⟩
  | 13 => ⟨S1, .i32⟩
  | 14 => ⟨S1x1, .i32⟩
  | 15 => ⟨S_, .f32⟩
  | 16 => ⟨S8x20000x1, .f32⟩
  | 17 => ⟨S8x20000x91, .f32⟩
  | 18 => ⟨S_, .i32⟩
  | 19 => ⟨S1, .i32⟩
  | 20 => ⟨S1, .i32⟩
  | 21 => ⟨S1, .i32⟩
  | 22 => ⟨S1x1, .i32⟩
  | 23 => ⟨S_, .f32⟩
  | 24 => ⟨S8x20000x1, .f32⟩
  | 25 => ⟨S8x20000x12, .f32⟩
  | 26 => ⟨S8x20000x91, .f32⟩
  | 27 => ⟨S8x20000x91, .f32⟩
  | 28 => ⟨S_, .f32⟩
  | 29 => ⟨S8x20000x91, .f32⟩
  | 30 => ⟨S8x20000x91, .f32⟩
  | 31 => ⟨S_, .f32⟩
  | 32 => ⟨S8x20000x91, .f32⟩
  | 33 => ⟨S8x20000x91, .f32⟩
  | 34 => ⟨S8x20000x12, .f32⟩
  | 35 => ⟨S8x20000x12, .f32⟩
  | 36 => ⟨S_, .f32⟩
  | 37 => ⟨S8x20000x12, .f32⟩
  | 38 => ⟨S8x20000x12, .f32⟩
  | 39 => ⟨S_, .f32⟩
  | 40 => ⟨S8x20000x12, .f32⟩
  | 41 => ⟨S8x20000x12, .f32⟩
  | 42 => ⟨S_, .i32⟩
  | 43 => ⟨S91, .i32⟩
  | 44 => ⟨S91, .i32⟩
  | 45 => ⟨S91, .i32⟩
  | 46 => ⟨S91x1, .i32⟩
  | 47 => ⟨S8x20000x91, .f32⟩
  | 48 => ⟨S8x20000x91, .f32⟩
  | 49 => ⟨S8x1820000, .f32⟩
  | 50 => ⟨S8x100, .f32⟩
  | 51 => ⟨S8x100, .i32⟩
  | 52 => ⟨S_, .i32⟩
  | 53 => ⟨S_, .i32⟩
  | 54 => ⟨S8x100, .i32⟩
  | 55 => ⟨S8x100, .i32⟩
  | 56 => ⟨S8x100, .i32⟩
  | 57 => ⟨S_, .i32⟩
  | 58 => ⟨S8x100, .i32⟩
  | 59 => ⟨S8x100, .i1⟩
  | 60 => ⟨S8x100, .i32⟩
  | 61 => ⟨S8x100, .i32⟩
  | 62 => ⟨S_, .i32⟩
  | 63 => ⟨S8x100, .i32⟩
  | 64 => ⟨S8x100, .i1⟩
  | 65 => ⟨S8x100, .i1⟩
  | 66 => ⟨S_, .i32⟩
  | 67 => ⟨S8x100, .i32⟩
  | 68 => ⟨S8x100, .i32⟩
  | 69 => ⟨S8x100, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S8x100, .i32⟩
  | 77 => ⟨S8x100, .i32⟩
  | 78 => ⟨S_, .i32⟩
  | 79 => ⟨S8x100, .i32⟩
  | 80 => ⟨S8x100, .i1⟩
  | 81 => ⟨S_, .i32⟩
  | 82 => ⟨S8x100, .i32⟩
  | 83 => ⟨S8x100, .i1⟩
  | 84 => ⟨S_, .i32⟩
  | 85 => ⟨S_, .i1⟩
  | 86 => ⟨S8x100, .i1⟩
  | 87 => ⟨S8x100, .i1⟩
  | 88 => ⟨S8x100, .i1⟩
  | 89 => ⟨S8x100, .i32⟩
  | 90 => ⟨S8x100, .i32⟩
  | 91 => ⟨S8x100, .i32⟩
  | 92 => ⟨S8x20000x1, .f32⟩
  | 93 => ⟨S8x20000, .f32⟩
  | 94 => ⟨S8x20000x1, .f32⟩
  | 95 => ⟨S8x20000, .f32⟩
  | 96 => ⟨S8x20000x1, .f32⟩
  | 97 => ⟨S8x20000, .f32⟩
  | 98 => ⟨S8x20000x1, .f32⟩
  | 99 => ⟨S8x20000, .f32⟩
  | 100 => ⟨S_, .f32⟩
  | 101 => ⟨S8x20000, .f32⟩
  | 102 => ⟨S8x20000, .f32⟩
  | 103 => ⟨S8x20000, .f32⟩
  | 104 => ⟨S_, .f32⟩
  | 105 => ⟨S8x20000, .f32⟩
  | 106 => ⟨S8x20000, .f32⟩
  | 107 => ⟨S8x20000, .f32⟩
  | 108 => ⟨S_, .f32⟩
  | 109 => ⟨S8x20000, .f32⟩
  | 110 => ⟨S8x20000, .f32⟩
  | 111 => ⟨S8x20000, .f32⟩
  | 112 => ⟨S_, .f32⟩
  | 113 => ⟨S8x20000, .f32⟩
  | 114 => ⟨S8x20000, .f32⟩
  | 115 => ⟨S8x20000, .f32⟩
  | 116 => ⟨S8x20000x1, .f32⟩
  | 117 => ⟨S8x20000x1, .f32⟩
  | 118 => ⟨S8x20000x1, .f32⟩
  | 119 => ⟨S8x20000x1, .f32⟩
  | 120 => ⟨S8x20000x4, .f32⟩
  | 121 => ⟨S8x100x1, .i32⟩
  | 122 => ⟨S8x100x4, .i32⟩
  | 123 => ⟨S_, .i32⟩
  | 124 => ⟨S8x100x4, .i32⟩
  | 125 => ⟨S8x100x4, .i1⟩
  | 126 => ⟨S_, .i32⟩
  | 127 => ⟨S8x100x4, .i32⟩
  | _ => ⟨S8x20000x91, .f32⟩

abbrev hbmTy0_1 (i : Nat) : BufTy := match i % 128 with
  | 0 => ⟨S8x100x4, .i32⟩
  | 1 => ⟨S8x100x4, .i32⟩
  | 2 => ⟨S8x100x4x1, .i32⟩
  | 3 => ⟨S1, .i32⟩
  | 4 => ⟨S_, .i32⟩
  | 5 => ⟨S8x100x4x1, .i32⟩
  | 6 => ⟨S8x100x4x1, .i1⟩
  | 7 => ⟨S1x1x1x1, .i32⟩
  | 8 => ⟨S8x100x4x1, .i32⟩
  | 9 => ⟨S8x100x4x1, .i1⟩
  | 10 => ⟨S8x100x4x1, .i1⟩
  | 11 => ⟨S_, .i1⟩
  | 12 => ⟨S8x100x4, .i1⟩
  | 13 => ⟨S8x100x4, .f32⟩
  | 14 => ⟨S_, .f32⟩
  | 15 => ⟨S8x100x4, .f32⟩
  | 16 => ⟨S8x100x4, .f32⟩
  | 17 => ⟨S8x2, .f32⟩
  | 18 => ⟨S8x1, .f32⟩
  | 19 => ⟨S8, .f32⟩
  | 20 => ⟨S8x1, .f32⟩
  | 21 => ⟨S8, .f32⟩
  | 22 => ⟨S8x1, .f32⟩
  | 23 => ⟨S8x1, .f32⟩
  | 24 => ⟨S8x1, .f32⟩
  | 25 => ⟨S8x1, .f32⟩
  | 26 => ⟨S8x4, .f32⟩
  | 27 => ⟨S8x1x4, .f32⟩
  | 28 => ⟨S8x100x4, .f32⟩
  | 29 => ⟨S8x100x4, .f32⟩
  | _ => ⟨S8x20000x91, .f32⟩

abbrev hbmTy (i : Nat) : BufTy := match i / 128 with
  | 0 => hbmTy0_0 i
  | 1 => hbmTy0_1 i
  | _ => ⟨S8x20000x91, .f32⟩

abbrev bufTy : (tb : Table) → Fin (tcTables nBuf tb) → BufTy
  | .hbm, ⟨i, _⟩ => hbmTy i
  | _, _ => ⟨S8x20000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_c_6 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_7 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_8 : Ref sig .tc := ⟨.hbm, 28, rfl⟩
abbrev main_v14 : Ref sig .tc := ⟨.hbm, 29, rfl⟩
abbrev main_v15 : Ref sig .tc := ⟨.hbm, 30, rfl⟩
abbrev main_cst_9 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_10 : Ref sig .tc := ⟨.hbm, 36, rfl⟩
abbrev main_v20 : Ref sig .tc := ⟨.hbm, 37, rfl⟩
abbrev main_v21 : Ref sig .tc := ⟨.hbm, 38, rfl⟩
abbrev main_cst_11 : Ref sig .tc := ⟨.hbm, 39, rfl⟩
abbrev main_v22 : Ref sig .tc := ⟨.hbm, 40, rfl⟩
abbrev main_v23 : Ref sig .tc := ⟨.hbm, 41, rfl⟩
abbrev main_c_12 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_values : Ref sig .tc := ⟨.hbm, 50, rfl⟩
abbrev main_indices : Ref sig .tc := ⟨.hbm, 51, rfl⟩
abbrev main_c_13 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v31 : Ref sig .tc := ⟨.hbm, 69, rfl⟩
abbrev main_c_14 : Ref sig .tc := ⟨.hbm, 70, rfl⟩
abbrev main_call1_v0 : Ref sig .tc := ⟨.hbm, 71, rfl⟩
abbrev main_call1_c : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_c_1 : Ref sig .tc := ⟨.hbm, 78, rfl⟩
abbrev main_call1_v5 : Ref sig .tc := ⟨.hbm, 79, rfl⟩
abbrev main_call1_v6 : Ref sig .tc := ⟨.hbm, 80, rfl⟩
abbrev main_call1_c_2 : Ref sig .tc := ⟨.hbm, 81, rfl⟩
abbrev main_call1_v7 : Ref sig .tc := ⟨.hbm, 82, rfl⟩
abbrev main_call1_v8 : Ref sig .tc := ⟨.hbm, 83, rfl⟩
abbrev main_call1_c_3 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_cst_15 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_cst_16 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_cst_17 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_cst_18 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_call2_c : Ref sig .tc := ⟨.hbm, 123, rfl⟩
abbrev main_call2_v0 : Ref sig .tc := ⟨.hbm, 124, rfl⟩
abbrev main_call2_v1 : Ref sig .tc := ⟨.hbm, 125, rfl⟩
abbrev main_call2_c_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_c_1 : Ref sig .tc := ⟨.hbm, 131, rfl⟩
abbrev main_call2_c_2 : Ref sig .tc := ⟨.hbm, 132, rfl⟩
abbrev main_call2_v6 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_c_3 : Ref sig .tc := ⟨.hbm, 139, rfl⟩
abbrev main_call2_v12 : Ref sig .tc := ⟨.hbm, 140, rfl⟩
abbrev main_call2_v13 : Ref sig .tc := ⟨.hbm, 141, rfl⟩
abbrev main_call2_cst : Ref sig .tc := ⟨.hbm, 142, rfl⟩
abbrev main_call2_v14 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩

abbrev nD : Nat := 1
abbrev τ : Topo := Topo.v7x

variable {F : FTy → Type} [FloatOps F]
-- ==== Proof.Rank.lean ====
/-
  THE ORDER OF A SELECTION (pure mathematics, no program). Elements with values in the extended reals and natural-number
  keys are ordered by greater value first, and by smaller key among equal values. An element's RANK is the number of
  elements before it. Repeated masking selects the element of rank `k` at step `k`; and taking the best `K` rows by their
  maxima and then the best elements of those rows gives the best `K` elements of all.
-/
module

public import Mathlib.Data.EReal.Basic
public import Mathlib.Data.Fintype.EquivFin
public import Mathlib.Order.Interval.Finset.Fin

@[expose] public section

namespace Cert.TopRank

open Classical

variable {ι ι' : Type} [Fintype ι] [Fintype ι']

/-- `q` comes before `p`: its value is greater, or the values are equal and its key is smaller. -/
def Before (v : ι → EReal) (f : ι → ℕ) (q p : ι) : Prop := v p < v q ∨ (v q = v p ∧ f q < f p)

/-- How many elements come before `p`. -/
noncomputable def rank (v : ι → EReal) (f : ι → ℕ) (p : ι) : ℕ := (Finset.univ.filter fun q => Before v f q p).card

variable (v : ι → EReal) (f : ι → ℕ)

omit [Fintype ι] in
theorem before_irrefl (p : ι) : ¬ Before v f p p := fun h => h.elim (lt_irrefl _) fun h => lt_irrefl _ h.2

omit [Fintype ι] in
variable {v f} in
theorem Before.trans {p q r : ι} (h : Before v f p q) (h' : Before v f q r) : Before v f p r := by
  rcases h with h | ⟨e, h⟩ <;> rcases h' with h' | ⟨e', h'⟩
  · exact .inl (h'.trans h)
  · exact .inl (e' ▸ h)
  · exact .inl (e ▸ h')
  · exact .inr ⟨e.trans e', h.trans h'⟩

omit [Fintype ι] in
variable {v f} in
/-- Of two elements with different keys one comes before the other. -/
theorem before_total {p q : ι} (h : f p ≠ f q) : Before v f p q ∨ Before v f q p := by
  rcases lt_trichotomy (v p) (v q) with hv | hv | hv
  · exact .inr (.inl hv)
  · rcases Nat.lt_or_gt_of_ne h with hf | hf
    · exact .inl (.inr ⟨hv, hf⟩)
    · exact .inr (.inr ⟨hv.symm, hf⟩)
  · exact .inl (.inl hv)

variable {v f} in
/-- What comes before has the smaller rank. -/
theorem rank_lt_of_before {p q : ι} (h : Before v f p q) : rank v f p < rank v f q := by
  unfold rank
  refine Finset.card_lt_card ((Finset.ssubset_iff_of_subset ?_).2 ⟨p, ?_, ?_⟩)
  · intro r hr
    simp only [Finset.mem_filter, Finset.mem_univ, true_and] at hr ⊢
    exact hr.trans h
  · simpa using h
  · simpa using before_irrefl v f p

theorem rank_lt_card (p : ι) : rank v f p < Fintype.card ι := by
  unfold rank
  refine Finset.card_lt_univ_of_notMem (x := p) ?_
  simpa using before_irrefl v f p

variable {v f} in
theorem rank_inj (hf : Function.Injective f) {p q : ι} (h : rank v f p = rank v f q) : p = q := by
  by_contra hne
  rcases before_total (v := v) (fun e => hne (hf e)) with hb | hb
  · exact absurd h (rank_lt_of_before hb).ne
  · exact absurd h (rank_lt_of_before hb).ne'

variable {v f} in
theorem before_iff (hf : Function.Injective f) {p q : ι} : Before v f p q ↔ rank v f p < rank v f q := by
  refine ⟨rank_lt_of_before, fun h => ?_⟩
  by_cases e : p = q
  · subst e; exact absurd h (lt_irrefl _)
  rcases before_total (v := v) (fun e' => e (hf e')) with hb | hb
  · exact hb
  · exact absurd (rank_lt_of_before hb) (not_lt.2 h.le)

/-- Every rank below the number of elements is some element's. -/
theorem exists_rank (hf : Function.Injective f) {k : ℕ} (hk : k < Fintype.card ι) : ∃ p, rank v f p = k := by
  have hinj : Function.Injective fun p : ι => (⟨rank v f p, rank_lt_card v f p⟩ : Fin (Fintype.card ι)) :=
    fun p q h => rank_inj hf (by simpa using h)
  have hb := (Fintype.bijective_iff_injective_and_card _).2 ⟨hinj, (Fintype.card_fin _).symm⟩
  obtain ⟨p, hp⟩ := hb.2 ⟨k, hk⟩
  exact ⟨p, congrArg Fin.val hp⟩

/-- The element of rank `k`. -/
noncomputable def atRank (hf : Function.Injective f) (k : ℕ) (hk : k < Fintype.card ι) : ι := (exists_rank v f hf hk).choose

theorem rank_atRank (hf : Function.Injective f) (k : ℕ) (hk : k < Fintype.card ι) : rank v f (atRank v f hf k hk) = k :=
  (exists_rank v f hf hk).choose_spec

/-- The values with the `k` first elements masked by −∞. -/
noncomputable def masked (k : ℕ) (q : ι) : EReal := if rank v f q < k then ⊥ else v q

theorem masked_zero : masked v f 0 = v := by funext q; simp [masked]

/-- No masked value exceeds the value at rank `k`. -/
theorem masked_le (hf : Function.Injective f) {k : ℕ} {p : ι} (hp : rank v f p = k) (q : ι) : masked v f k q ≤ v p := by
  unfold masked
  split_ifs with h
  · exact bot_le
  by_cases e : q = p
  · rw [e]
  have hb : Before v f p q := by
    rw [before_iff hf, hp]
    exact lt_of_le_of_ne (not_lt.1 h) fun e' => e (rank_inj hf (by rw [← e', hp]))
  exact hb.elim le_of_lt fun h => h.1.symm.le

theorem masked_self {k : ℕ} {p : ι} (hp : rank v f p = k) : masked v f k p = v p := by simp [masked, hp]

/-- Among the masked values that equal the greatest, the least key is that of the element of rank `k`. -/
theorem key_le_of_masked (hf : Function.Injective f) (hv : ∀ q, v q ≠ ⊥) {k : ℕ} {p : ι} (hp : rank v f p = k) (q : ι)
    (h : masked v f k q = v p) : f p ≤ f q := by
  unfold masked at h
  split_ifs at h with hr
  · exact absurd h.symm (hv p)
  by_cases e : q = p
  · rw [e]
  have hb : Before v f p q := by
    rw [before_iff hf, hp]
    exact lt_of_le_of_ne (not_lt.1 hr) fun e' => e (rank_inj hf (by rw [← e', hp]))
  rcases hb with hb | hb
  · exact absurd h hb.ne
  · exact hb.2.le

/-- Masking the element of rank `k` leaves the `k + 1` first masked. -/
theorem masked_succ (hf : Function.Injective f) {k : ℕ} {p : ι} (hp : rank v f p = k) (q : ι) :
    masked v f (k + 1) q = if q = p then ⊥ else masked v f k q := by
  unfold masked
  by_cases e : q = p
  · subst e; simp [hp]
  · have hne : rank v f q ≠ k := fun e' => e (rank_inj hf (by rw [e', hp]))
    rw [if_neg e]
    have : rank v f q < k + 1 ↔ rank v f q < k := by omega
    simp only [this]

/-- THE TWO STAGES: of elements in rows, with `m` each row's greatest value and keys ascending with the rows, let `cand`
    be the rows of ranks `0 … K - 1` by `m` and let `g` enumerate those rows' elements. An element of rank below `K`
    among those has that same rank among all. -/
theorem two_stage {N K : ℕ} (row : ι → Fin N) (m : Fin N → EReal)
    (hmono : ∀ p q, row p < row q → f p < f q) (hle : ∀ p, v p ≤ m (row p)) (hat : ∀ r, ∃ p, row p = r ∧ v p = m r)
    (cand : Fin K → Fin N) (hc : ∀ i, rank m Fin.val (cand i) = i.val) (g : ι' → ι) (hg : Function.Injective g)
    (hrange : ∀ p i, row p = cand i → ∃ j, g j = p) (j : ι') (hj : rank (v ∘ g) (f ∘ g) j < K) :
    rank v f (g j) = rank (v ∘ g) (f ∘ g) j := by
  have hsub : ∀ q, Before v f q (g j) → ∃ i, g i = q := by
    intro q hq
    by_contra hno
    have hK : K ≤ rank m Fin.val (row q) := by
      by_contra hlt
      rw [not_le] at hlt
      refine hno (hrange q ⟨_, hlt⟩ (rank_inj (v := m) (f := Fin.val) Fin.val_injective ?_))
      rw [hc ⟨_, hlt⟩]
    have hex : ∀ i : Fin K, ∃ e : ι', row (g e) = cand i ∧ Before (v ∘ g) (f ∘ g) e j := by
      intro i
      obtain ⟨p, hp, hvp⟩ := hat (cand i)
      obtain ⟨e, rfl⟩ := hrange p i hp
      refine ⟨e, hp, ?_⟩
      have hb : Before m Fin.val (cand i) (row q) := by
        rw [before_iff Fin.val_injective, hc]; exact lt_of_lt_of_le i.isLt hK
      have hb' : Before v f (g e) q := by
        rcases hb with hb | ⟨he, hlt⟩
        · exact .inl (lt_of_le_of_lt (hle q) (hvp ▸ hb))
        · rcases lt_or_eq_of_le (hle q) with h | h
          · exact .inl (by rw [hvp, he]; exact h)
          · exact .inr ⟨by rw [hvp, he, h], hmono _ _ (by rw [hp]; exact hlt)⟩
      exact hb'.trans hq
    choose e he hbe using hex
    have hinj : Function.Injective e := by
      intro i i' h
      have hcc : cand i = cand i' := by rw [← he, ← he, h]
      have := congrArg (rank m Fin.val) hcc
      rw [hc, hc] at this
      exact Fin.ext this
    have hcard : K ≤ rank (v ∘ g) (f ∘ g) j := by
      unfold rank
      calc K = (Finset.univ.image e).card := by rw [Finset.card_image_of_injective _ hinj]; simp
        _ ≤ _ := Finset.card_le_card fun x hx => by
          obtain ⟨i, -, rfl⟩ := Finset.mem_image.1 hx
          simpa using hbe i
    omega
  unfold rank
  rw [← Finset.card_image_of_injective _ hg]
  congr 1
  ext q
  simp only [Finset.mem_filter, Finset.mem_univ, true_and, Finset.mem_image]
  constructor
  · intro h
    obtain ⟨i, rfl⟩ := hsub q h
    exact ⟨i, h, rfl⟩
  · rintro ⟨i, h, rfl⟩
    exact h

end Cert.TopRank

end
-- ==== Proof.Spec.lean ====
/-
  WHAT IS COMPUTED. The class probabilities, the flat positions in order of rank (greater value first, then smaller position), and
  of each of the hundred best its value, its class and its scaled box. And the two-stage selection, the best hundred rows first and
  then the best hundred among their entries, finds the same positions.
-/
module

public import Idealize.ShloMosaic.Lib.Pointwise
public import proofs.«01_k».proof.Proof.Rank

@[expose] public section

set_option maxRecDepth 16384

noncomputable section

namespace Cert.TopRank

open Idealize.ShloMosaic

/-! ## The probabilities -/

/-- A logistic value is a real number. -/
theorem logistic_real (x : EReal) : ∃ r : ℝ, Ideal.logistic x = (r : EReal) := by
  induction x with
  | bot => exact ⟨0, by rw [Ideal.logistic_bot]; rfl⟩
  | top => exact ⟨1, by rw [Ideal.logistic_top]; rfl⟩
  | coe r => exact ⟨_, Ideal.logistic_coe r⟩

/-- The logit set to minus a hundred thousand million where the class is not used. -/
def barred (c d : ℕ) (x : EReal) : EReal := if c = d then Ideal.ofBits .f32 0xD1BA43B7#32 else x

/-- The probability of a class in one row: the logistic of its logit times that of its superclass's. -/
def cell (x : Fin 91 → EReal) (y : Fin 12 → EReal) (c : Fin 91) : EReal :=
  Ideal.logistic (barred c.val 90 (x c))
    * Ideal.logistic (barred (c.val % 12) 11 (y ⟨c.val % 12, Nat.mod_lt _ (by decide)⟩))

/-- The probabilities of all rows. -/
def prob (L : Fin 8 → Fin 20000 → Fin 91 → EReal) (S : Fin 8 → Fin 20000 → Fin 12 → EReal) (b : Fin 8) (r : Fin 20000) (c : Fin 91) : EReal :=
  cell (L b r) (S b r) c

theorem cell_ne_bot (x : Fin 91 → EReal) (y : Fin 12 → EReal) (c : Fin 91) : cell x y c ≠ ⊥ := by
  unfold cell
  obtain ⟨u, hu⟩ := logistic_real (barred c.val 90 (x c))
  obtain ⟨v, hv⟩ := logistic_real (barred (c.val % 12) 11 (y ⟨c.val % 12, Nat.mod_lt _ (by decide)⟩))
  rw [hu, hv, ← EReal.coe_mul]
  exact EReal.coe_ne_bot _

theorem prob_ne_bot (L : Fin 8 → Fin 20000 → Fin 91 → EReal) (S : Fin 8 → Fin 20000 → Fin 12 → EReal) (b : Fin 8) (r : Fin 20000)
    (c : Fin 91) : prob L S b r c ≠ ⊥ := cell_ne_bot _ _ _

/-! ## The best hundred -/

section Best

variable (p : Fin 8 → Fin 20000 → Fin 91 → EReal)

/-- The row of a flat position. -/
def rowOf (k : Fin 1820000) : Fin 20000 := ⟨k.val / 91, by have := k.isLt; omega⟩

/-- The class of a flat position. -/
def clsOf (k : Fin 1820000) : Fin 91 := ⟨k.val % 91, Nat.mod_lt _ (by decide)⟩

/-- The values by flat position. -/
def flatAt (b : Fin 8) (k : Fin 1820000) : EReal := p b (rowOf k) (clsOf k)

/-- The flat position of rank `j`. -/
def posAt (b : Fin 8) (j : Fin 100) : Fin 1820000 :=
  atRank (flatAt p b) Fin.val Fin.val_injective j.val (by have := j.isLt; rw [Fintype.card_fin]; omega)

theorem rank_posAt (b : Fin 8) (j : Fin 100) : rank (flatAt p b) Fin.val (posAt p b j) = j.val := rank_atRank _ _ _ _ _

/-! ## The two stages -/

/-- The greatest value of a row. -/
def rowMax (b : Fin 8) (r : Fin 20000) : EReal := (Finset.univ : Finset (Fin 91)).sup (p b r)

theorem le_rowMax (b : Fin 8) (r : Fin 20000) (c : Fin 91) : p b r c ≤ rowMax p b r := Finset.le_sup (Finset.mem_univ c)

theorem rowMax_at (b : Fin 8) (r : Fin 20000) : ∃ c, p b r c = rowMax p b r := by
  obtain ⟨c, -, hc⟩ := Finset.exists_mem_eq_sup (Finset.univ : Finset (Fin 91)) ⟨0, Finset.mem_univ _⟩ (p b r)
  exact ⟨c, hc.symm⟩

theorem rowMax_ne_bot (hp : ∀ b r c, p b r c ≠ ⊥) (b : Fin 8) (r : Fin 20000) : rowMax p b r ≠ ⊥ := by
  obtain ⟨c, hc⟩ := rowMax_at p b r
  rw [← hc]; exact hp b r c

/-! The entries of a hundred candidate rows, laid out one row after another. -/

variable (cand : Fin 8 → Fin 100 → Fin 20000)

/-- The candidate a lane belongs to. -/
def laneCand (q : Fin 9100) : Fin 100 := ⟨q.val / 91, by have := q.isLt; omega⟩

/-- The class of a lane. -/
def laneCls (q : Fin 9100) : Fin 91 := ⟨q.val % 91, Nat.mod_lt _ (by decide)⟩

/-- The value on a lane. -/
def laneVal (b : Fin 8) (q : Fin 9100) : EReal := p b (cand b (laneCand q)) (laneCls q)

/-- The flat position of a lane's entry. -/
def lanePos (b : Fin 8) (q : Fin 9100) : Fin 1820000 :=
  ⟨(cand b (laneCand q)).val * 91 + (laneCls q).val, by have := (cand b (laneCand q)).isLt; have := (laneCls q).isLt; omega⟩

theorem rowOf_lanePos (b : Fin 8) (q : Fin 9100) : rowOf (lanePos cand b q) = cand b (laneCand q) :=
  Fin.ext (by
    show ((cand b (laneCand q)).val * 91 + (laneCls q).val) / 91 = _
    have := (laneCls q).isLt; omega)

theorem clsOf_lanePos (b : Fin 8) (q : Fin 9100) : clsOf (lanePos cand b q) = laneCls q :=
  Fin.ext (by
    show ((cand b (laneCand q)).val * 91 + (laneCls q).val) % 91 = _
    have := (laneCls q).isLt; omega)

theorem flatAt_lanePos (b : Fin 8) (q : Fin 9100) : flatAt p b (lanePos cand b q) = laneVal p cand b q := by
  unfold flatAt laneVal; rw [rowOf_lanePos, clsOf_lanePos]

theorem lanePos_lt (b : Fin 8) (q : Fin 9100) : (lanePos cand b q).val < 2 ^ 30 := by
  have := (lanePos cand b q).isLt; omega

variable (hc : ∀ b i, rank (rowMax p b) Fin.val (cand b i) = i.val)

include hc in
theorem lanePos_inj (b : Fin 8) : Function.Injective (lanePos cand b) := by
  intro q q' h
  have hr : cand b (laneCand q) = cand b (laneCand q') := by rw [← rowOf_lanePos cand b, ← rowOf_lanePos cand b, h]
  have hk : laneCls q = laneCls q' := by rw [← clsOf_lanePos cand b, ← clsOf_lanePos cand b, h]
  have hi : (laneCand q).val = (laneCand q').val := by rw [← hc b, ← hc b, hr]
  have hk' := congrArg Fin.val hk
  have h1 : q.val / 91 = q'.val / 91 := hi
  have h2 : q.val % 91 = q'.val % 91 := hk'
  exact Fin.ext (by omega)

include hc in
/-- A lane of rank `j` among the lanes holds the position of rank `j` among all. -/
theorem lanePos_of_rank (b : Fin 8) (q : Fin 9100) (j : Fin 100)
    (hq : rank (laneVal p cand b) (fun q => (lanePos cand b q).val) q = j.val) : lanePos cand b q = posAt p b j := by
  have hv : flatAt p b ∘ lanePos cand b = laneVal p cand b := funext fun q => flatAt_lanePos p cand b q
  have hf : (Fin.val ∘ lanePos cand b) = fun q => (lanePos cand b q).val := rfl
  have h := two_stage (v := flatAt p b) (f := Fin.val) rowOf (rowMax p b)
    (fun x y hxy => by
      have : x.val / 91 < y.val / 91 := hxy
      show x.val < y.val
      omega)
    (fun x => le_rowMax p b _ _)
    (fun r => by
      obtain ⟨c, hcm⟩ := rowMax_at p b r
      have h1 := r.isLt
      have h2 := c.isLt
      refine ⟨⟨r.val * 91 + c.val, by omega⟩, Fin.ext ?_, ?_⟩
      · show (r.val * 91 + c.val) / 91 = r.val; omega
      · rw [← hcm]; unfold flatAt
        congr 1
        · congr 1; exact Fin.ext (by show (r.val * 91 + c.val) / 91 = r.val; omega)
        · exact Fin.ext (by show (r.val * 91 + c.val) % 91 = c.val; omega))
    (cand b) (hc b) (lanePos cand b) (lanePos_inj p cand hc b)
    (fun x i hx => by
      have hi := i.isLt
      have hm : x.val % 91 < 91 := Nat.mod_lt _ (by decide)
      refine ⟨⟨i.val * 91 + x.val % 91, by omega⟩, Fin.ext ?_⟩
      have e1 : laneCand ⟨i.val * 91 + x.val % 91, by omega⟩ = i :=
        Fin.ext (by show (i.val * 91 + x.val % 91) / 91 = i.val; omega)
      have e2 : (x.val / 91) = (cand b i).val := congrArg Fin.val hx
      show (cand b (laneCand ⟨i.val * 91 + x.val % 91, _⟩)).val * 91 + (i.val * 91 + x.val % 91) % 91 = x.val
      rw [e1, ← e2]; omega)
    q (by rw [hv, hf, hq]; exact j.isLt)
  rw [hv, hf, hq] at h
  exact rank_inj Fin.val_injective (h.trans (rank_posAt p b j).symm)

end Best

end Cert.TopRank
end
-- ==== Proof.RowOps.lean ====
/-
  REDUCTIONS OF A ROW, and the sorted order of a stable sort (no program): a maximum is the value that bounds the family
  and is taken in it; a signed minimum of words of naturals is the word of the least; and position `k` of the stable
  sort by greater value holds the element of rank `k`.
-/
module

public import Idealize.ShloMosaic.PureOps.Ideal
public import Idealize.ShloMosaic.Lib.SortFacts
public import Idealize.ShloMosaic.Lib.WordArith
public import Idealize.ShloMosaic.PureOps.Reduce
public import Idealize.ShloMosaic.PureOps.Ideal.Laws
public import proofs.«01_k».proof.Proof.Rank

@[expose] public section

noncomputable section

namespace Cert.TopRank

open Idealize.ShloMosaic

/-! ## The folds a row's maximum and minimum read as -/

section Rows
variable {m : ℕ}

/-- The word of −∞ denotes the least extended real. -/
theorem ofBits_bot : Ideal.ofBits .f32 0xFF800000#32 = (⊥ : EReal) := by simp [Ideal.ofBits, Ideal.ieee]

/-- The maximum from −∞ over all indices is the value that bounds the family and is taken in it. -/
theorem fold_max_eq (f : Fin m → EReal) (M : EReal) (p : Fin m) (hle : ∀ q, f q ≤ M) (hat : f p = M) :
    (Finset.univ : Finset (Fin m)).fold max (Ideal.ofBits .f32 0xFF800000#32) f = M := by
  rw [ofBits_bot]
  apply le_antisymm
  · rw [Finset.fold_max_le]
    exact ⟨bot_le, fun q _ => hle q⟩
  · rw [Finset.le_fold_max]
    exact .inr ⟨p, Finset.mem_univ _, hat.ge⟩

/-- The signed minimum of the words of two naturals is the word of their minimum. -/
theorem minsi_ofNat {a c : ℕ} (ha : a < 2 ^ 31) (hc : c < 2 ^ 31) :
    IntOp.minsi (BitVec.ofNat 32 a) (BitVec.ofNat 32 c) = BitVec.ofNat 32 (min a c) := by
  unfold IntOp.minsi
  have : (BitVec.ofNat 32 a).slt (BitVec.ofNat 32 c) = decide (a < c) := by
    rw [BitVec.slt, WordArith.toInt_ofNat_small a ha, WordArith.toInt_ofNat_small c hc]
    simp
  rw [this]
  by_cases hac : a < c
  · rw [decide_eq_true hac, if_pos rfl, min_eq_left hac.le]
  · rw [decide_eq_false hac, if_neg (by decide), min_eq_right (not_lt.1 hac)]

/-- The signed minimum from the greatest word over words of naturals is the word of the least of them. -/
theorem fold_minsi_eq (g : Fin m → ℕ) (p : Fin m) (hg : ∀ q, g q < 2 ^ 31) (hle : ∀ q, g p ≤ g q) :
    (Finset.univ : Finset (Fin m)).fold IntOp.minsi 2147483647#32 (fun k => BitVec.ofNat 32 (g k)) = BitVec.ofNat 32 (g p) := by
  classical
  have key : ∀ s : Finset (Fin m), s.fold IntOp.minsi 2147483647#32 (fun k => BitVec.ofNat 32 (g k))
      = BitVec.ofNat 32 (s.fold min 2147483647 g) ∧ s.fold min 2147483647 g < 2 ^ 31 := by
    intro s
    induction s using Finset.induction_on with
    | empty => exact ⟨rfl, by rw [Finset.fold_empty]; norm_num⟩
    | insert a s ha ih =>
      rw [Finset.fold_insert ha, Finset.fold_insert ha, ih.1, minsi_ofNat (hg a) ih.2]
      exact ⟨rfl, lt_of_le_of_lt (min_le_left _ _) (hg a)⟩
  refine (key Finset.univ).1.trans (congrArg _ (le_antisymm ?_ ?_))
  · rw [Finset.fold_min_le]
    exact .inr ⟨p, Finset.mem_univ _, le_rfl⟩
  · rw [Finset.le_fold_min]
    exact ⟨by have := hg p; omega, fun q _ => hle q⟩

end Rows

/-! ## The stable sort by greater value -/

/-- Stable sorts of a list in order, by two relations that agree on every pair read later-before-earlier, agree. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- Position `k` of the stable sort by greater value holds the element of rank `k`, the keys being the positions. -/
theorem rank_sortedFrom {N : ℕ} (v : Fin N → EReal) (R : Fin N → Fin N → Bool) (hR : ∀ a b, R a b = decide (v b < v a)) (k : Fin N) :
    rank v Fin.val (sortedFrom R k) = k.val := by
  classical
  let B : Fin N → Fin N → Bool := fun a b => decide (Before v Fin.val a b)
  have hs : sortPositions N R = sortPositions N B := by
    unfold sortPositions
    refine stableSort_congr_of_pairwise R B _ ((List.pairwise_lt_finRange N).imp ?_)
    intro a b hab
    rw [hR]
    refine decide_eq_decide.2 ⟨.inl, fun h => h.elim id fun h => ?_⟩
    have h2 := h.2
    rw [Fin.lt_def] at hab
    omega
  have hst : ∀ i : Fin N, sortedFrom R i = sortedFrom B i := by
    intro i
    unfold sortedFrom
    simp only [List.get_eq_getElem, hs]
    rfl
  have hlt : ∀ i j : Fin N, i < j → Before v Fin.val (sortedFrom R i) (sortedFrom R j) := by
    intro i j hij
    have hno := sortedFrom_noInversion B B (fun a b hab => ?_) (fun _ _ h => h) (fun a b c hab hbc => ?_) i j hij
    · rw [← hst, ← hst] at hno
      have hne : (sortedFrom R i).val ≠ (sortedFrom R j).val := fun e =>
        absurd (sortedFrom_injective R (Fin.ext e)) hij.ne
      exact (before_total hne).resolve_right (of_decide_eq_false hno)
    · refine decide_eq_false fun hba => before_irrefl v Fin.val a ((of_decide_eq_true hab).trans hba)
    · refine decide_eq_false fun hac => ?_
      have hab := of_decide_eq_false hab
      have hbc := of_decide_eq_false hbc
      have r1 := (before_iff (v := v) Fin.val_injective).not.1 hab
      have r2 := (before_iff (v := v) Fin.val_injective).not.1 hbc
      have r3 := (before_iff (v := v) Fin.val_injective).1 hac
      omega
  have himg : (Finset.univ.filter fun q => Before v Fin.val q (sortedFrom R k)) = (Finset.univ.filter fun i => i < k).image (sortedFrom R) := by
    ext q
    simp only [Finset.mem_filter, Finset.mem_univ, true_and, Finset.mem_image]
    obtain ⟨i, rfl⟩ := sortedFrom_surjective R q
    constructor
    · intro hb
      refine ⟨i, ?_, rfl⟩
      rcases lt_trichotomy i k with h | h | h
      · exact h
      · subst h; exact absurd hb (before_irrefl _ _ _)
      · exact absurd (hb.trans (hlt k i h)) (before_irrefl _ _ _)
    · rintro ⟨i', hi', e⟩
      rw [← e]
      exact hlt i' k hi'
  unfold rank
  have := congrArg Finset.card himg
  rw [Finset.card_image_of_injective _ (sortedFrom_injective R)] at this
  refine Eq.trans ?_ (this.trans ?_)
  · congr
  · simp [Finset.filter_gt_eq_Iio]

end Cert.TopRank

end
-- ==== Proof.TopQStep.lean ====
/-
  ONE TRIP OF THE ROW SELECTION. The row maxima with the `k` first rows masked, and the row of rank `j` in slot `j` for every
  `j < k`: one trip's operations take both from `k` to `k + 1`.
-/
module

public import Idealize.ShloMosaic.Lib.Pointwise
public import proofs.«01_k».proof.Proof.RowOps
public import proofs.«01_k».proof.Proof.Gen.KernelIdeal.Skeleton

@[expose] public section

set_option maxRecDepth 16384

noncomputable section

namespace Cert.TopRank

open Idealize.ShloMosaic Cert.KernelIdeal Cert.KernelIdeal.Gen

/-- A compare for equality selects by equality of the naturals two words hold. -/
theorem select_cmpi_eq_ofNat {α : Type} {a c : ℕ} (ha : a < 2 ^ 32) (hc : c < 2 ^ 32) (x y : α) :
    Scalar.select (IntOp.cmpi .eq (BitVec.ofNat 32 a) (BitVec.ofNat 32 c)) x y = if a = c then x else y := by
  unfold Scalar.select IntOp.cmpi
  by_cases h : a = c
  · subst h; simp
  · have : BitVec.ofNat 32 a ≠ BitVec.ofNat 32 c := fun e => h (by
      have := congrArg BitVec.toNat e
      rwa [BitVec.toNat_ofNat, BitVec.toNat_ofNat, Nat.mod_eq_of_lt ha, Nat.mod_eq_of_lt hc] at this)
    have hb : (BitVec.ofNat 32 a == BitVec.ofNat 32 c) = false := beq_eq_false_iff_ne.2 this
    simp only [hb, if_neg h]
    rfl

/-- A counted loop's induction word, from zero by ones, holds the trip's number. -/
theorem iv_eq (k : ℕ) : Scf.iv 0#32 1#32 k = BitVec.ofNat 32 k := by
  simp [Scf.iv]

section Step

/-- The column the trip finds: the least among those that hold the row's greatest value. -/
theorem topq_column (x : Vec Ideal S8x20000 .f32) (b : Fin 8) (M : EReal) (p : Fin 20000) (hle : ∀ q, x (ix2 b q) ≤ M)
    (hat : x (ix2 b p) = M) (hmin : ∀ q, x (ix2 b q) = M → p.val ≤ q.val) : k1_pay3 x (ix2 b 0) = BitVec.ofNat 32 p.val := by
  pointwise [k1_pay3]
  have hM : (Finset.univ : Finset (Fin 20000)).fold max (Ideal.ofBits .f32 0xFF800000#32) (fun q => (x (ix2 b q) : EReal)) = M :=
    fold_max_eq _ M p hle hat
  have e : (fun q : Fin 20000 => if x (ix2 b q) = (Finset.univ : Finset (Fin 20000)).fold max (Ideal.ofBits .f32 0xFF800000#32)
      (fun q => (x (ix2 b q) : EReal)) then BitVec.ofNat 32 q.val else 20000#32)
      = fun q : Fin 20000 => BitVec.ofNat 32 (if x (ix2 b q) = M then q.val else 20000) := by
    funext q
    rw [hM]
    split_ifs <;> rfl
  refine (congrArg (fun f => Finset.fold IntOp.minsi 2147483647#32 f Finset.univ) e).trans ?_
  have h := fold_minsi_eq (fun q : Fin 20000 => if x (ix2 b q) = M then q.val else 20000) p
    (fun q => by
      have := q.isLt
      show (if x (ix2 b q) = M then q.val else 20000) < 2 ^ 31
      split_ifs <;> omega)
    (fun q => by
      have := p.isLt
      show (if x (ix2 b p) = M then p.val else 20000) ≤ (if x (ix2 b q) = M then q.val else 20000)
      rw [if_pos hat]
      split_ifs with hq
      · exact hmin q hq
      · omega)
  refine h.trans ?_
  rw [if_pos hat]

variable (m : Fin 8 → Fin 20000 → EReal)

/-- The row maxima after `k` trips: the `k` first rows of every line at −∞. -/
def mvAt (k : ℕ) : Vec Ideal S8x20000 .f32 := fun i => masked (m (i 0)) Fin.val k (i 1)

/-- The row of rank `j` in line `b`. -/
def rowAt (b : Fin 8) (j : Fin 100) : Fin 20000 :=
  atRank (m b) Fin.val Fin.val_injective j.val (by have := j.isLt; rw [Fintype.card_fin]; omega)

theorem rank_rowAt (b : Fin 8) (j : Fin 100) : rank (m b) Fin.val (rowAt m b j) = j.val := rank_atRank _ _ _ _ _

/-- The slots after `k` trips: slot `j < k` holds the word of the row of rank `j`. -/
def candAt (k : ℕ) : IVec S8x100 32 :=
  fun i => if (i 1).val < k then BitVec.ofNat 32 (rowAt m (i 0) (i 1)).val else 0#32

variable (hm : ∀ b r, m b r ≠ ⊥)
include hm

/-- At trip `k` the column found is the row of rank `k`. -/
theorem column_mvAt (k : Fin 100) (b : Fin 8) : k1_pay3 (mvAt m k.val) (ix2 b 0) = BitVec.ofNat 32 (rowAt m b k).val := by
  have hr := rank_rowAt m b k
  refine topq_column _ b (m b (rowAt m b k)) _ (fun q => ?_) ?_ (fun q hq => ?_)
  · exact masked_le (m b) Fin.val Fin.val_injective hr q
  · exact masked_self (m b) Fin.val hr
  · exact key_le_of_masked (m b) Fin.val Fin.val_injective (hm b) hr q hq

/-- The trip's masked maxima. -/
theorem pay5_mvAt (k : Fin 100) : k1_pay5 (mvAt m k.val) = mvAt m (k.val + 1) := by
  funext i
  obtain ⟨b, q, rfl⟩ : ∃ b q, i = ix2 b q := ⟨i 0, i 1, eq_ix2 i⟩
  pointwise [k1_pay5]
  rw [column_mvAt m hm k b, select_cmpi_eq_ofNat (by have := q.isLt; omega) (by have := (rowAt m b k).isLt; omega), ofBits_bot]
  show _ = masked (m b) Fin.val (k.val + 1) q
  rw [masked_succ (m b) Fin.val Fin.val_injective (rank_rowAt m b k)]
  simp only [Fin.ext_iff]
  rfl

/-- The trip's slots. -/
theorem pay4_candAt (k : Fin k1_t1_loop.trips) (hk : k.val < 100) :
    k1_pay4 k (candAt m k.val) (mvAt m k.val) = candAt m (k.val + 1) := by
  funext i
  obtain ⟨b, q, rfl⟩ : ∃ b q, i = ix2 b q := ⟨i 0, i 1, eq_ix2 i⟩
  pointwise [k1_pay4]
  rw [column_mvAt m hm ⟨k.val, hk⟩ b, iv_eq, select_cmpi_eq_ofNat (by have := q.isLt; omega) (by omega)]
  show _ = if q.val < k.val + 1 then BitVec.ofNat 32 (rowAt m b q).val else 0#32
  by_cases h : q.val = k.val
  · rw [if_pos h, if_pos (by omega)]
    congr 3
    exact Fin.ext h.symm
  · rw [if_neg h]
    show (if q.val < k.val then BitVec.ofNat 32 (rowAt m b q).val else 0#32) = _
    by_cases h' : q.val < k.val
    · rw [if_pos h', if_pos (by omega)]
    · rw [if_neg h', if_neg (by omega)]

end Step

end Cert.TopRank

end
-- ==== Proof.FinalStep.lean ====
/-
  ONE TRIP OF THE FINAL SELECTION. The candidate values with the `k` first lanes masked, and in slot `j < k` what the lane of rank
  `j` (by value, then by flat index) gives: its value, the class of its flat index, and the box of its row. One trip's operations
  take all of it from `k` to `k + 1`.
-/
module

public import Idealize.ShloMosaic.Lib.Pointwise
public import Idealize.ShloMosaic.Lib.Routing.Words
public import proofs.«01_k».proof.Proof.TopQStep

@[expose] public section

set_option maxRecDepth 16384

noncomputable section

namespace Cert.TopRank

open Idealize.ShloMosaic Cert.KernelIdeal Cert.KernelIdeal.Gen

/-! ## Words -/

/-- A signed comparison's guard that the remainder's sign differs from the divisor's never holds of naturals: the floored
    remainder of a natural by 91 is the remainder. -/
theorem mod91_word {a : ℕ} (ha : a < 2 ^ 31) :
    Scalar.select (IntOp.andi (IntOp.xori (IntOp.cmpi .slt (IntOp.remsi .vector (BitVec.ofNat 32 a)
        (Scalar.select (Scalar.cmpi .eq 91#32 0#32) 1#32 91#32)) 0#32)
        (Scalar.cmpi .slt (Scalar.select (Scalar.cmpi .eq 91#32 0#32) 1#32 91#32) 0#32))
      (IntOp.cmpi .ne (IntOp.remsi .vector (BitVec.ofNat 32 a) (Scalar.select (Scalar.cmpi .eq 91#32 0#32) 1#32 91#32)) 0#32))
      (IntOp.addi (IntOp.remsi .vector (BitVec.ofNat 32 a) (Scalar.select (Scalar.cmpi .eq 91#32 0#32) 1#32 91#32))
        (Scalar.select (Scalar.cmpi .eq 91#32 0#32) 1#32 91#32))
      (IntOp.remsi .vector (BitVec.ofNat 32 a) (Scalar.select (Scalar.cmpi .eq 91#32 0#32) 1#32 91#32))
      = BitVec.ofNat 32 (a % 91) := by
  have e : Scalar.select (Scalar.cmpi .eq 91#32 0#32) 1#32 91#32 = BitVec.ofNat 32 91 := by decide
  rw [e, Routing.remsi_word .vector ha (by decide) (by decide)]
  have hm : a % 91 < 91 := Nat.mod_lt _ (by decide)
  generalize a % 91 = r at hm
  have : ∀ r : Fin 91, Scalar.select (IntOp.andi (IntOp.xori (IntOp.cmpi .slt (BitVec.ofNat 32 r.val) 0#32)
        (Scalar.cmpi .slt (BitVec.ofNat 32 91) 0#32)) (IntOp.cmpi .ne (BitVec.ofNat 32 r.val) 0#32))
      (IntOp.addi (BitVec.ofNat 32 r.val) (BitVec.ofNat 32 91)) (BitVec.ofNat 32 r.val) = BitVec.ofNat 32 r.val := by decide
  exact this ⟨r, hm⟩

/-- The row of every lane, as the kernel computes it from the lane's number by floored division. -/
theorem pay14_at (b : Fin 8) (q : Fin 9100) : k2_pay14 (ix2 b q) = BitVec.ofNat 32 (q.val / 91) := by
  pointwise [k2_pay14]
  have hq : q.val < 2 ^ 31 := by have := q.isLt; omega
  rw [show (91#32 : BitVec 32) = BitVec.ofNat 32 91 from rfl, Routing.remsi_word .vector hq (by decide) (by decide),
    Routing.divsi_word .vector hq (by decide) (by decide)]
  have key : ∀ (a c : ℕ), 0 < a ∧ a < 2 ^ 31 ∨ a = 0 ∧ c = 0 → c < 2 ^ 31 → ∀ x y : BitVec 32,
      Scalar.select (IntOp.andi (IntOp.cmpi .ne (IntOp.subi (BitVec.setWidth 32 (IntOp.cmpi .sgt (BitVec.ofNat 32 a) 0#32))
            (BitVec.setWidth 32 (IntOp.cmpi .slt (BitVec.ofNat 32 a) 0#32)))
          (Scalar.subi (Scalar.extui (Scalar.cmpi .sgt (BitVec.ofNat 32 91) 0#32)) (Scalar.extui (Scalar.cmpi .slt (BitVec.ofNat 32 91) 0#32))))
        (IntOp.cmpi .ne (BitVec.ofNat 32 c) 0#32)) x y = y := by
    intro a c h hc x y
    have hw : Scalar.subi (Scalar.extui (Scalar.cmpi .sgt (BitVec.ofNat 32 91) 0#32)) (Scalar.extui (Scalar.cmpi .slt (BitVec.ofNat 32 91) 0#32))
        = 1#32 := by decide
    rw [hw]
    rcases h with ⟨h0, h1⟩ | ⟨rfl, rfl⟩
    · have ht : (BitVec.ofNat 32 a).toInt = a := by
        rw [BitVec.toInt_eq_toNat_cond, BitVec.toNat_ofNat, Nat.mod_eq_of_lt (by omega), if_pos (by omega)]
      have hz : (0#32 : BitVec 32).toInt = 0 := by decide
      have e1 : IntOp.cmpi .sgt (BitVec.ofNat 32 a) 0#32 = 1#1 := by
        have : (0#32 : BitVec 32).slt (BitVec.ofNat 32 a) = true := by
          rw [BitVec.slt_eq_decide, decide_eq_true_iff, ht, hz]; omega
        simp [IntOp.cmpi, this]
      have e2 : IntOp.cmpi .slt (BitVec.ofNat 32 a) 0#32 = 0#1 := by
        have : (BitVec.ofNat 32 a).slt 0#32 = false := by
          rw [BitVec.slt_eq_decide, decide_eq_false_iff_not, ht, hz]; omega
        simp [IntOp.cmpi, this]
      rw [e1, e2]
      have : IntOp.cmpi .ne (IntOp.subi (BitVec.setWidth 32 1#1) (BitVec.setWidth 32 0#1)) (1#32) = 0#1 := by decide
      rw [this]
      show Scalar.select (0#1 &&& _) x y = y
      rw [BitVec.zero_and]; rfl
    · have : IntOp.cmpi .ne (BitVec.ofNat 32 0) 0#32 = 0#1 := by decide
      rw [this]
      show Scalar.select (_ &&& 0#1) x y = y
      rw [BitVec.and_zero]; rfl
  refine key q.val (q.val % 91) ?_ (by omega) _ _
  rcases Nat.eq_zero_or_pos q.val with h | h
  · right; exact ⟨h, by rw [h]⟩
  · left; exact ⟨h, hq⟩

/-- A compare's bit, widened and converted, is one or zero. -/
theorem bit_cast {a c : ℕ} (ha : a < 2 ^ 32) (hc : c < 2 ^ 32) :
    (FloatOps.sitofp .f32 (BitVec.setWidth 32 (IntOp.cmpi .eq (BitVec.ofNat 32 a) (BitVec.ofNat 32 c))) : Ideal .f32)
      = if a = c then (1 : EReal) else (0 : EReal) := by
  have h := select_cmpi_eq_ofNat ha hc (1 : EReal) (0 : EReal)
  rw [← h]
  rcases BitVec.eq_zero_or_eq_one (IntOp.cmpi .eq (BitVec.ofNat 32 a) (BitVec.ofNat 32 c)) with e | e <;> rw [e]
  · show (((BitVec.setWidth 32 0#1).toInt : ℝ) : EReal) = 0
    have : (BitVec.setWidth 32 0#1).toInt = 0 := by decide
    rw [this]; simp
  · show (((BitVec.setWidth 32 1#1).toInt : ℝ) : EReal) = 1
    have : (BitVec.setWidth 32 1#1).toInt = 1 := by decide
    rw [this]; simp

/-- A sum against a one-hot row is the entry it picks. -/
theorem sum_onehot (X : Fin 100 → EReal) (p : Fin 100) (O : Fin 100 → EReal) (hO : ∀ j, O j = if j.val = p.val then 1 else 0) :
    ∑ j, X j * O j = X p := by
  rw [Finset.sum_eq_single p]
  · rw [hO, if_pos rfl, mul_one]
  · intro j _ hj
    rw [hO, if_neg (fun e => hj (Fin.ext e)), mul_zero]
  · intro h; exact absurd (Finset.mem_univ p) h

section Step

variable (v : Fin 8 → Fin 9100 → EReal) (f : Fin 8 → Fin 9100 → ℕ) (hinj : ∀ b, Function.Injective (f b))

/-- The candidate values with the `k` first lanes masked. -/
def vvAt (k : ℕ) : Vec Ideal S8x9100 .f32 := fun i => masked (v (i 0)) (f (i 0)) k (i 1)

/-- The flat indices' words. -/
def flatWord : IVec S8x9100 32 := fun i => BitVec.ofNat 32 (f (i 0) (i 1))

/-- The slots' numbers. -/
def slotWord : IVec S8x100 32 := fun i => BitVec.ofNat 32 (i 1).val

/-- The lane of rank `j`. -/
def laneAt (b : Fin 8) (j : Fin 100) : Fin 9100 :=
  atRank (v b) (f b) (hinj b) j.val (by have := j.isLt; rw [Fintype.card_fin]; omega)

theorem rank_laneAt (b : Fin 8) (j : Fin 100) : rank (v b) (f b) (laneAt v f hinj b j) = j.val := rank_atRank _ _ _ _ _

/-- The candidate row a lane lies in. -/
def laneRow (q : Fin 9100) : Fin 100 := ⟨q.val / 91, by have := q.isLt; omega⟩

/-- Slots filled under `k`: slot `j < k` holds what the lane of rank `j` gives, the others zero. -/
def slotsAt {α : Type} (z : α) (g : Fin 8 → Fin 9100 → α) (k : ℕ) : S8x100.Idx → α :=
  fun i => if (i 1).val < k then g (i 0) (laneAt v f hinj (i 0) (i 1)) else z

variable (hv : ∀ b r, v b r ≠ ⊥) (hf : ∀ b r, f b r < 2 ^ 30)

include hinj in
/-- The greatest unmasked value. -/
theorem pay4_vvAt (k : Fin 100) (b : Fin 8) : k2_pay4 (vvAt v f k.val) (ix2 b 0) = v b (laneAt v f hinj b k) := by
  have hr := rank_laneAt v f hinj b k
  pointwise [k2_pay4]
  exact fold_max_eq _ _ (laneAt v f hinj b k) (fun q => masked_le (v b) (f b) (hinj b) hr q) (masked_self (v b) (f b) hr)

include hv hf in
/-- The flat index chosen: the least among those holding the greatest value. -/
theorem pay5_vvAt (k : Fin 100) (b : Fin 8) :
    k2_pay5 (flatWord f) 1073741824#32 (vvAt v f k.val) (ix2 b 0) = BitVec.ofNat 32 (f b (laneAt v f hinj b k)) := by
  have hr := rank_laneAt v f hinj b k
  pointwise [k2_pay5]
  have hM := pay4_vvAt v f hinj k b
  set p := laneAt v f hinj b k with hp
  have e : (fun q : Fin 9100 => if vvAt v f k.val (ix2 b q) = k2_pay4 (vvAt v f k.val) (ix2 b 0) then flatWord f (ix2 b q) else 1073741824#32)
      = fun q : Fin 9100 => BitVec.ofNat 32 (if masked (v b) (f b) k.val q = v b p then f b q else 1073741824) := by
    funext q
    rw [hM]
    show (if masked (v b) (f b) k.val q = v b p then BitVec.ofNat 32 (f b q) else 1073741824#32) = _
    split_ifs <;> rfl
  refine (congrArg (fun g => Finset.fold IntOp.minsi 2147483647#32 g Finset.univ) e).trans ?_
  refine (fold_minsi_eq (fun q : Fin 9100 => if masked (v b) (f b) k.val q = v b p then f b q else 1073741824) p
    (fun q => ?_) (fun q => ?_)).trans ?_
  · show (if masked (v b) (f b) k.val q = v b p then f b q else 1073741824) < 2 ^ 31
    have := hf b q
    split_ifs <;> omega
  · show (if masked (v b) (f b) k.val p = v b p then f b p else 1073741824) ≤ if masked (v b) (f b) k.val q = v b p then f b q else 1073741824
    rw [if_pos (masked_self (v b) (f b) hr)]
    have := hf b p
    split_ifs with h
    · exact key_le_of_masked (v b) (f b) (hinj b) (hv b) hr q h
    · omega
  · show BitVec.ofNat 32 (if masked (v b) (f b) k.val p = v b p then f b p else 1073741824) = _
    rw [if_pos (masked_self (v b) (f b) hr)]

include hv hf in
/-- Where the flat index is the chosen one: at the one lane. -/
theorem pay6_vvAt {α : Type} (k : Fin 100) (b : Fin 8) (q : Fin 9100) (x y : α) :
    Scalar.select (k2_pay6 (flatWord f) 1073741824#32 (vvAt v f k.val) (ix2 b q)) x y = if q = laneAt v f hinj b k then x else y := by
  have h : k2_pay6 (flatWord f) 1073741824#32 (vvAt v f k.val) (ix2 b q)
      = IntOp.cmpi .eq (BitVec.ofNat 32 (f b q)) (BitVec.ofNat 32 (f b (laneAt v f hinj b k))) := by
    pointwise [k2_pay6]
    rw [pay5_vvAt v f hinj hv hf k b]
    rfl
  rw [h, select_cmpi_eq_ofNat (by have := hf b q; omega) (by have := hf b (laneAt v f hinj b k); omega)]
  exact if_congr ⟨fun e => hinj b e, fun e => by rw [e]⟩ rfl rfl

include hv hf in
/-- The one-hot row of the candidate the chosen lane lies in. -/
theorem pay10_vvAt (k : Fin 100) (b : Fin 8) (j : Fin 100) :
    k2_pay10 (flatWord f) k2_pay14 slotWord 1073741824#32 (vvAt v f k.val) (ix2 b j)
      = if j.val = (laneRow (laneAt v f hinj b k)).val then (1 : EReal) else (0 : EReal) := by
  pointwise [k2_pay10]
  set p := laneAt v f hinj b k with hp
  have e : (fun q : Fin 9100 => Scalar.select (k2_pay6 (flatWord f) 1073741824#32 (vvAt v f k.val) (ix2 b q)) (k2_pay14 (ix2 b q)) 1073741824#32)
      = fun q : Fin 9100 => BitVec.ofNat 32 (if q = p then q.val / 91 else 1073741824) := by
    funext q
    rw [pay6_vvAt v f hinj hv hf k b q, pay14_at]
    split_ifs <;> rfl
  have h2 : Finset.fold IntOp.minsi 2147483647#32 (fun q : Fin 9100 =>
      Scalar.select (k2_pay6 (flatWord f) 1073741824#32 (vvAt v f k.val) (ix2 b q)) (k2_pay14 (ix2 b q)) 1073741824#32) Finset.univ
      = BitVec.ofNat 32 (p.val / 91) := by
    rw [e]
    refine (fold_minsi_eq (fun q : Fin 9100 => if q = p then q.val / 91 else 1073741824) p (fun q => ?_) (fun q => ?_)).trans ?_
    · show (if q = p then q.val / 91 else 1073741824) < 2 ^ 31
      have := q.isLt
      split_ifs <;> omega
    · show (if p = p then p.val / 91 else 1073741824) ≤ if q = p then q.val / 91 else 1073741824
      rw [if_pos rfl]
      have := p.isLt
      split_ifs with h
      · rw [h]
      · omega
    · show BitVec.ofNat 32 (if p = p then p.val / 91 else 1073741824) = _
      rw [if_pos rfl]
  refine (congrArg (fun w => (FloatOps.sitofp .f32 (BitVec.setWidth 32 (IntOp.cmpi .eq (slotWord (ix2 b j)) w)) : Ideal .f32)) h2).trans ?_
  exact bit_cast (show j.val < 2 ^ 32 by have := j.isLt; omega) (show p.val / 91 < 2 ^ 32 by have := p.isLt; omega)

/-- A slot's number is the trip's: the slot is written. -/
theorem select_slot {α : Type} (k : Fin k2_t1_loop.trips) (b : Fin 8) (j : Fin 100) (hk : k.val < 100) (x y : α) :
    Scalar.select (k2_pay7 slotWord 0#32 1#32 k (ix2 b j)) x y = if j.val = k.val then x else y := by
  have h : k2_pay7 slotWord 0#32 1#32 k (ix2 b j) = IntOp.cmpi .eq (BitVec.ofNat 32 j.val) (BitVec.ofNat 32 k.val) := by
    pointwise [k2_pay7]
    rw [iv_eq]
    rfl
  rw [h, select_cmpi_eq_ofNat (by have := j.isLt; omega) (by omega)]

/-- Filling slot `k` from the slots under `k`. -/
theorem slotsAt_succ {α : Type} (z : α) (g : Fin 8 → Fin 9100 → α) (k : ℕ) (hk : k < 100) (b : Fin 8) (j : Fin 100) :
    (if j.val = k then g b (laneAt v f hinj b ⟨k, hk⟩) else slotsAt v f hinj z g k (ix2 b j)) = slotsAt v f hinj z g (k + 1) (ix2 b j) := by
  show (if j.val = k then _ else if j.val < k then g b (laneAt v f hinj b j) else z) = if j.val < k + 1 then g b (laneAt v f hinj b j) else z
  by_cases h : j.val = k
  · have e : j = ⟨k, hk⟩ := Fin.ext h
    subst e
    rw [if_pos rfl, if_pos (Nat.lt_succ_self _)]
  · rw [if_neg h]
    by_cases h2 : j.val < k
    · rw [if_pos h2, if_pos (by omega)]
    · rw [if_neg h2, if_neg (by omega)]

/-- The scores' slots. -/
theorem pay8_slots (k : Fin k2_t1_loop.trips) (hk : k.val < 100) (z : EReal) :
    k2_pay8 slotWord 0#32 1#32 k (slotsAt v f hinj z v k.val) (vvAt v f k.val) = slotsAt v f hinj z v (k.val + 1) := by
  funext i
  obtain ⟨b, j, rfl⟩ : ∃ b j, i = ix2 b j := ⟨i 0, i 1, eq_ix2 i⟩
  pointwise [k2_pay8]
  rw [pay4_vvAt v f hinj ⟨k.val, hk⟩ b]
  exact (select_slot k b j hk _ _).trans (slotsAt_succ v f hinj z v k.val hk b j)

include hv hf in
/-- The labels' slots. -/
theorem pay9_slots (k : Fin k2_t1_loop.trips) (hk : k.val < 100) (z : BitVec 32) :
    k2_pay9 (flatWord f) slotWord 1073741824#32 0#32 1#32 k (slotsAt v f hinj z (fun b q => BitVec.ofNat 32 (f b q % 91)) k.val)
      (vvAt v f k.val) = slotsAt v f hinj z (fun b q => BitVec.ofNat 32 (f b q % 91)) (k.val + 1) := by
  funext i
  obtain ⟨b, j, rfl⟩ : ∃ b j, i = ix2 b j := ⟨i 0, i 1, eq_ix2 i⟩
  pointwise [k2_pay9]
  rw [pay5_vvAt v f hinj hv hf ⟨k.val, hk⟩ b, mod91_word (by have := hf b (laneAt v f hinj b ⟨k.val, hk⟩); omega)]
  exact (select_slot k b j hk _ _).trans (slotsAt_succ v f hinj z (fun b q => BitVec.ofNat 32 (f b q % 91)) k.val hk b j)

include hinj hv hf in
/-- The scratch's next contents. -/
theorem pay28_vvAt (k : Fin 100) :
    k2_pay28 (vvAt v f k.val) (k2_pay6 (flatWord f) 1073741824#32 (vvAt v f k.val)) = vvAt v f (k.val + 1) := by
  funext i
  obtain ⟨b, q, rfl⟩ : ∃ b q, i = ix2 b q := ⟨i 0, i 1, eq_ix2 i⟩
  pointwise [k2_pay28]
  rw [pay6_vvAt v f hinj hv hf k b q, ofBits_bot]
  show _ = masked (v b) (f b) (k.val + 1) q
  rw [masked_succ (v b) (f b) (hinj b) (rank_laneAt v f hinj b k)]
  by_cases h : q = laneAt v f hinj b k
  · rw [if_pos h, if_pos h]
  · rw [if_neg h, if_neg h]
    rfl

/-! ## The boxes -/

/-- A low corner's coordinate: the centre less half the extent, times the scale. -/
def loCorner (cen : FVec Ideal S8x100 .f32) (ext : Vec Ideal S8x100x1 .f32) (scl : Vec Ideal S8x1 .f32) (b : Fin 8) (r : Fin 100) : EReal :=
  ((cen (ix2 b r) : EReal) - Ideal.ofBits .f32 0x3F000000#32 * ext (ix3 b r 0)) * scl (ix2 b 0)

/-- A high corner's coordinate: the centre and half the extent, times the scale. -/
def hiCorner (cen : FVec Ideal S8x100 .f32) (ext : Vec Ideal S8x100x1 .f32) (scl : Vec Ideal S8x1 .f32) (b : Fin 8) (r : Fin 100) : EReal :=
  ((cen (ix2 b r) : EReal) + Ideal.ofBits .f32 0x3F000000#32 * ext (ix3 b r 0)) * scl (ix2 b 0)

include hv hf in
/-- The first coordinate's slots. -/
theorem pay24_slots (k : Fin k2_t1_loop.trips) (hk : k.val < 100) (z : EReal) (v34 : FVec Ideal S8x100 .f32)
    (v37 : Vec Ideal S8x100x1 .f32) (v43 : Vec Ideal S8x1 .f32) :
    k2_pay24 (slotsAt v f hinj z (fun b q => loCorner v34 v37 v43 b (laneRow q)) k.val) (k2_pay7 slotWord 0#32 1#32 k)
      (k2_pay11 (flatWord f) k2_pay14 slotWord (k2_pay21 v34 v37 v43) 1073741824#32 (vvAt v f k.val))
      = slotsAt v f hinj z (fun b q => loCorner v34 v37 v43 b (laneRow q)) (k.val + 1) := by
  funext i
  obtain ⟨b, j, rfl⟩ : ∃ b j, i = ix2 b j := ⟨i 0, i 1, eq_ix2 i⟩
  have hs : k2_pay11 (flatWord f) k2_pay14 slotWord (k2_pay21 v34 v37 v43) 1073741824#32 (vvAt v f k.val) (ix2 b 0)
      = loCorner v34 v37 v43 b (laneRow (laneAt v f hinj b ⟨k.val, hk⟩)) := by
    pointwise [k2_pay11]
    refine (sum_onehot (fun r => k2_pay21 v34 v37 v43 (ix2 b r)) (laneRow (laneAt v f hinj b ⟨k.val, hk⟩)) _
      (fun r => pay10_vvAt v f hinj hv hf ⟨k.val, hk⟩ b r)).trans ?_
    pointwise [k2_pay21, k2_pay17, k2_pay20]
    rfl
  pointwise [k2_pay24]
  rw [hs]
  exact (select_slot k b j hk _ _).trans (slotsAt_succ v f hinj z (fun b q => loCorner v34 v37 v43 b (laneRow q)) k.val hk b j)

include hv hf in
/-- The second coordinate's slots. -/
theorem pay25_slots (k : Fin k2_t1_loop.trips) (hk : k.val < 100) (z : EReal) (v36 : FVec Ideal S8x100 .f32)
    (v39 : Vec Ideal S8x100x1 .f32) (v41 : Vec Ideal S8x1 .f32) :
    k2_pay25 v36 v39 v41 (slotsAt v f hinj z (fun b q => loCorner v36 v39 v41 b (laneRow q)) k.val) (k2_pay7 slotWord 0#32 1#32 k)
      (k2_pay10 (flatWord f) k2_pay14 slotWord 1073741824#32 (vvAt v f k.val))
      = slotsAt v f hinj z (fun b q => loCorner v36 v39 v41 b (laneRow q)) (k.val + 1) := by
  funext i
  obtain ⟨b, j, rfl⟩ : ∃ b j, i = ix2 b j := ⟨i 0, i 1, eq_ix2 i⟩
  pointwise [k2_pay25, k2_pay18, k2_pay19]
  refine (congrArg (fun s : EReal => Scalar.select (k2_pay7 slotWord 0#32 1#32 k (ix2 b j)) s _)
    (sum_onehot (fun r => loCorner v36 v39 v41 b r) (laneRow (laneAt v f hinj b ⟨k.val, hk⟩)) _
      (fun r => pay10_vvAt v f hinj hv hf ⟨k.val, hk⟩ b r))).trans ?_
  exact (select_slot k b j hk _ _).trans (slotsAt_succ v f hinj z (fun b q => loCorner v36 v39 v41 b (laneRow q)) k.val hk b j)

include hv hf in
/-- The third coordinate's slots. -/
theorem pay26_slots (k : Fin k2_t1_loop.trips) (hk : k.val < 100) (z : EReal) (v34 : FVec Ideal S8x100 .f32)
    (v37 : Vec Ideal S8x100x1 .f32) (v43 : Vec Ideal S8x1 .f32) :
    k2_pay26 v34 v37 v43 (slotsAt v f hinj z (fun b q => hiCorner v34 v37 v43 b (laneRow q)) k.val) (k2_pay7 slotWord 0#32 1#32 k)
      (k2_pay10 (flatWord f) k2_pay14 slotWord 1073741824#32 (vvAt v f k.val))
      = slotsAt v f hinj z (fun b q => hiCorner v34 v37 v43 b (laneRow q)) (k.val + 1) := by
  funext i
  obtain ⟨b, j, rfl⟩ : ∃ b j, i = ix2 b j := ⟨i 0, i 1, eq_ix2 i⟩
  pointwise [k2_pay26, k2_pay17, k2_pay20]
  refine (congrArg (fun s : EReal => Scalar.select (k2_pay7 slotWord 0#32 1#32 k (ix2 b j)) s _)
    (sum_onehot (fun r => hiCorner v34 v37 v43 b r) (laneRow (laneAt v f hinj b ⟨k.val, hk⟩)) _
      (fun r => pay10_vvAt v f hinj hv hf ⟨k.val, hk⟩ b r))).trans ?_
  exact (select_slot k b j hk _ _).trans (slotsAt_succ v f hinj z (fun b q => hiCorner v34 v37 v43 b (laneRow q)) k.val hk b j)

include hv hf in
/-- The fourth coordinate's slots. -/
theorem pay27_slots (k : Fin k2_t1_loop.trips) (hk : k.val < 100) (z : EReal) (v36 : FVec Ideal S8x100 .f32)
    (v39 : Vec Ideal S8x100x1 .f32) (v41 : Vec Ideal S8x1 .f32) :
    k2_pay27 v36 v39 v41 (slotsAt v f hinj z (fun b q => hiCorner v36 v39 v41 b (laneRow q)) k.val) (k2_pay7 slotWord 0#32 1#32 k)
      (k2_pay10 (flatWord f) k2_pay14 slotWord 1073741824#32 (vvAt v f k.val))
      = slotsAt v f hinj z (fun b q => hiCorner v36 v39 v41 b (laneRow q)) (k.val + 1) := by
  funext i
  obtain ⟨b, j, rfl⟩ : ∃ b j, i = ix2 b j := ⟨i 0, i 1, eq_ix2 i⟩
  pointwise [k2_pay27, k2_pay18, k2_pay19]
  refine (congrArg (fun s : EReal => Scalar.select (k2_pay7 slotWord 0#32 1#32 k (ix2 b j)) s _)
    (sum_onehot (fun r => hiCorner v36 v39 v41 b r) (laneRow (laneAt v f hinj b ⟨k.val, hk⟩)) _
      (fun r => pay10_vvAt v f hinj hv hf ⟨k.val, hk⟩ b r))).trans ?_
  exact (select_slot k b j hk _ _).trans (slotsAt_succ v f hinj z (fun b q => hiCorner v36 v39 v41 b (laneRow q)) k.val hk b j)

end Step

end Cert.TopRank
end
-- ==== Proof.Final.lean ====
/-
  THE FINAL SELECTION, RUN. The hundred trips over the scratch that begins as the candidate values leave in slot `j` the value, the
  class and the box of the lane of rank `j`, for every one of the hundred slots.
-/
module

public import Idealize.ShloMosaic.Lib.VecWindow
public import proofs.«01_k».proof.Proof.FinalStep
public import proofs.«01_k».proof.Proof.Gen.KernelIdeal.Frame

@[expose] public section

set_option maxRecDepth 16384

noncomputable section

namespace Cert.TopRank

open Idealize.ShloMosaic Cert.KernelIdeal Cert.KernelIdeal.Gen

section Run

variable (𝒱 : Variants) (c : Dev nD) (bd : Option 𝒱.V)
  (arg0 : Memref sig .tc .vmem S8x9100 .f32) (harg0 : arg0.IsWhole) (arg1 : Memref sig .tc .vmem S8x9100 .i32) (harg1 : arg1.IsWhole)
  (arg2 : Memref sig .tc .vmem S8x100x4 .f32) (harg2 : arg2.IsWhole) (arg3 : Memref sig .tc .vmem S8x2 .f32) (harg3 : arg3.IsWhole)
  (arg4 : Memref sig .tc .vmem S8x100 .f32) (harg4 : arg4.IsWhole) (arg5 : Memref sig .tc .vmem S8x100 .i32) (harg5 : arg5.IsWhole)
  (arg6 : Memref sig .tc .vmem S8x100x4 .f32) (harg6 : arg6.IsWhole) (arg7 : Memref sig .tc .vmem S8x9100 .f32) (harg7 : arg7.IsWhole)

/-- One trip's slots, from the slots and the scratch it finds. -/
theorem tripR2_eq (v6 v31 : IVec S8x9100 32) (v32 : IVec S8x100 32) (v34 v36 : FVec Ideal S8x100 .f32)
    (v37 v39 : Vec Ideal S8x100x1 .f32) (v41 v43 : Vec Ideal S8x1 .f32) (k : Fin k2_t1_loop.trips)
    (acc : FVec Ideal S8x100 .f32 × IVec S8x100 32 × FVec Ideal S8x100 .f32 × FVec Ideal S8x100 .f32 × FVec Ideal S8x100 .f32
      × FVec Ideal S8x100 .f32)
    (f : BufTy.Contents (Elt Ideal) arg7.view.ty) (x : Vec Ideal S8x9100 .f32) (hx : arg7.view.read (Elt Ideal) f = x) :
    tripR_k2_t1 (F := Ideal) 𝒱 c bd arg0 harg0 arg1 harg1 arg2 harg2 arg3 harg3 arg4 harg4 arg5 harg5 arg6 harg6 arg7 harg7
        v6 v31 v32 v34 v36 v37 v39 v41 v43 k acc f
      = (k2_pay8 v32 0#32 1#32 k acc.1 x, k2_pay9 v6 v32 1073741824#32 0#32 1#32 k acc.2.1 x,
        k2_pay24 acc.2.2.1 (k2_pay7 v32 0#32 1#32 k) (k2_pay11 v6 v31 v32 (k2_pay21 v34 v37 v43) 1073741824#32 x),
        k2_pay25 v36 v39 v41 acc.2.2.2.1 (k2_pay7 v32 0#32 1#32 k) (k2_pay10 v6 v31 v32 1073741824#32 x),
        k2_pay26 v34 v37 v43 acc.2.2.2.2.1 (k2_pay7 v32 0#32 1#32 k) (k2_pay10 v6 v31 v32 1073741824#32 x),
        k2_pay27 v36 v39 v41 acc.2.2.2.2.2 (k2_pay7 v32 0#32 1#32 k) (k2_pay10 v6 v31 v32 1073741824#32 x)) := by
  unfold tripR_k2_t1 trip_k2_t1 trip_k2_t1.sl.r_3 trip_k2_t1.sl.r_4 trip_k2_t1.sl.r_2 trip_k2_t1.sl.r_6 trip_k2_t1.sl.r_5
  dsimp only
  have e : View.readAt (Elt Ideal) arg7.view (Rect.unit ![0, 0] ![8, 9100] inb_S8x9100_S8x9100_0_0).toLoadRect f = x :=
    (View.readAt_full arg7.view f _).trans hx
  rw [e]

/-- One trip's store into the scratch. -/
theorem read_tripL2 (v6 v31 : IVec S8x9100 32) (v32 : IVec S8x100 32) (v34 v36 : FVec Ideal S8x100 .f32)
    (v37 v39 : Vec Ideal S8x100x1 .f32) (v41 v43 : Vec Ideal S8x1 .f32) (k : Fin k2_t1_loop.trips)
    (acc : FVec Ideal S8x100 .f32 × IVec S8x100 32 × FVec Ideal S8x100 .f32 × FVec Ideal S8x100 .f32 × FVec Ideal S8x100 .f32
      × FVec Ideal S8x100 .f32)
    (f g : BufTy.Contents (Elt Ideal) arg7.view.ty) (L : List (View.Piece (Elt Ideal) S8x9100 .f32)) (x : Vec Ideal S8x9100 .f32)
    (hx : arg7.view.read (Elt Ideal) f = x) :
    arg7.view.read (Elt Ideal) (arg7.view.writes (Elt Ideal) g
      (tripL_k2_t1 (F := Ideal) 𝒱 c bd arg0 harg0 arg1 harg1 arg2 harg2 arg3 harg3 arg4 harg4 arg5 harg5 arg6 harg6 arg7 harg7
        v6 v31 v32 v34 v36 v37 v39 v41 v43 k acc f ++ L)) = k2_pay28 x (k2_pay6 v6 1073741824#32 x) := by
  unfold tripL_k2_t1 trip_k2_t1 trip_k2_t1.sl.r trip_k2_t1.sl.r_1
  dsimp only
  refine (View.read_writes_full arg7.view g _ _ _).trans ?_
  have e : View.readAt (Elt Ideal) arg7.view (Rect.unit ![0, 0] ![8, 9100] inb_S8x9100_S8x9100_0_0).toLoadRect f = x :=
    (View.readAt_full arg7.view f _).trans hx
  rw [e]

theorem trips2 : k2_t1_loop.trips = 100 := by decide

variable (v : Fin 8 → Fin 9100 → EReal) (f : Fin 8 → Fin 9100 → ℕ) (hinj : ∀ b, Function.Injective (f b))

/-- The six slot arrays, filled under `k`. -/
def slots2 (z : EReal) (v34 v36 : FVec Ideal S8x100 .f32) (v37 v39 : Vec Ideal S8x100x1 .f32) (v41 v43 : Vec Ideal S8x1 .f32) (k : ℕ) :
    FVec Ideal S8x100 .f32 × IVec S8x100 32 × FVec Ideal S8x100 .f32 × FVec Ideal S8x100 .f32 × FVec Ideal S8x100 .f32
      × FVec Ideal S8x100 .f32 :=
  (slotsAt v f hinj z v k, slotsAt v f hinj 0#32 (fun b q => BitVec.ofNat 32 (f b q % 91)) k,
    slotsAt v f hinj z (fun b q => loCorner v34 v37 v43 b (laneRow q)) k, slotsAt v f hinj z (fun b q => loCorner v36 v39 v41 b (laneRow q)) k,
    slotsAt v f hinj z (fun b q => hiCorner v34 v37 v43 b (laneRow q)) k, slotsAt v f hinj z (fun b q => hiCorner v36 v39 v41 b (laneRow q)) k)

/-- Before trip `k` the slots under `k` are filled, and the scratch holds the values with the lanes of rank under `k` masked. -/
theorem st2_eq (hv : ∀ b r, v b r ≠ ⊥) (hf : ∀ b r, f b r < 2 ^ 30) (z : EReal) (v34 v36 : FVec Ideal S8x100 .f32)
    (v37 v39 : Vec Ideal S8x100x1 .f32) (v41 v43 : Vec Ideal S8x1 .f32)
    (G : BufTy.Contents (Elt Ideal) arg7.view.ty) (hG : arg7.view.read (Elt Ideal) G = vvAt v f 0) (k : ℕ) (hk : k ≤ 100) :
    (st_k2_t1 (F := Ideal) 𝒱 c bd arg0 harg0 arg1 harg1 arg2 harg2 arg3 harg3 arg4 harg4 arg5 harg5 arg6 harg6 arg7 harg7
        (flatWord f) k2_pay14 slotWord v34 v36 v37 v39 v41 v43 G (slots2 v f hinj z v34 v36 v37 v39 v41 v43 0) k).1
      = slots2 v f hinj z v34 v36 v37 v39 v41 v43 k
    ∧ arg7.view.read (Elt Ideal) (arg7.view.writes (Elt Ideal) G
        (st_k2_t1 (F := Ideal) 𝒱 c bd arg0 harg0 arg1 harg1 arg2 harg2 arg3 harg3 arg4 harg4 arg5 harg5 arg6 harg6 arg7 harg7
          (flatWord f) k2_pay14 slotWord v34 v36 v37 v39 v41 v43 G (slots2 v f hinj z v34 v36 v37 v39 v41 v43 0) k).2) = vvAt v f k := by
  induction k with
  | zero => exact ⟨rfl, hG⟩
  | succ k ih =>
    obtain ⟨h1, h2⟩ := ih (by omega)
    have hkt : k < k2_t1_loop.trips := by rw [trips2]; omega
    rw [st_k2_t1_succ (F := Ideal) 𝒱 c bd arg0 harg0 arg1 harg1 arg2 harg2 arg3 harg3 arg4 harg4 arg5 harg5 arg6 harg6 arg7 harg7
      (flatWord f) k2_pay14 slotWord v34 v36 v37 v39 v41 v43 G (slots2 v f hinj z v34 v36 v37 v39 v41 v43 0) ⟨k, hkt⟩]
    refine ⟨?_, ?_⟩
    · refine (tripR2_eq 𝒱 c bd arg0 harg0 arg1 harg1 arg2 harg2 arg3 harg3 arg4 harg4 arg5 harg5 arg6 harg6 arg7 harg7
        _ _ _ _ _ _ _ _ _ ⟨k, hkt⟩ _ _ _ h2).trans ?_
      rw [h1]
      have hk' : (⟨k, hkt⟩ : Fin k2_t1_loop.trips).val < 100 := by show k < 100; omega
      exact Prod.ext (pay8_slots v f hinj ⟨k, hkt⟩ hk' z) (Prod.ext (pay9_slots v f hinj hv hf ⟨k, hkt⟩ hk' 0#32)
        (Prod.ext (pay24_slots v f hinj hv hf ⟨k, hkt⟩ hk' z v34 v37 v43) (Prod.ext (pay25_slots v f hinj hv hf ⟨k, hkt⟩ hk' z v36 v39 v41)
          (Prod.ext (pay26_slots v f hinj hv hf ⟨k, hkt⟩ hk' z v34 v37 v43) (pay27_slots v f hinj hv hf ⟨k, hkt⟩ hk' z v36 v39 v41)))))
    · refine (read_tripL2 𝒱 c bd arg0 harg0 arg1 harg1 arg2 harg2 arg3 harg3 arg4 harg4 arg5 harg5 arg6 harg6 arg7 harg7
        _ _ _ _ _ _ _ _ _ ⟨k, hkt⟩ _ _ _ _ _ h2).trans ?_
      exact pay28_vvAt v f hinj hv hf ⟨k, by omega⟩

end Run

/-- The four corners of a box given by its centre and extents, scaled. -/
def cornerOf (cx cy w h sh sw : EReal) : Fin 4 → EReal :=
  ![(cx - Ideal.ofBits .f32 0x3F000000#32 * w) * sw, (cy - Ideal.ofBits .f32 0x3F000000#32 * h) * sh,
    (cx + Ideal.ofBits .f32 0x3F000000#32 * w) * sw, (cy + Ideal.ofBits .f32 0x3F000000#32 * h) * sh]

/-- A low corner from its three entries. -/
theorem loCorner_of {cen : FVec Ideal S8x100 .f32} {ext : Vec Ideal S8x100x1 .f32} {scl : Vec Ideal S8x1 .f32} (b : Fin 8) (r : Fin 100)
    {a w s : EReal} (ha : cen (ix2 b r) = a) (hw : ext (ix3 b r 0) = w) (hs : scl (ix2 b 0) = s) :
    loCorner cen ext scl b r = (a - Ideal.ofBits .f32 0x3F000000#32 * w) * s := by
  subst ha hw hs; rfl

/-- A high corner from its three entries. -/
theorem hiCorner_of {cen : FVec Ideal S8x100 .f32} {ext : Vec Ideal S8x100x1 .f32} {scl : Vec Ideal S8x1 .f32} (b : Fin 8) (r : Fin 100)
    {a w s : EReal} (ha : cen (ix2 b r) = a) (hw : ext (ix3 b r 0) = w) (hs : scl (ix2 b 0) = s) :
    hiCorner cen ext scl b r = (a + Ideal.ofBits .f32 0x3F000000#32 * w) * s := by
  subst ha hw hs; rfl

section Outs

variable (c : Dev nD)
  (arg0 : Memref sig .tc .vmem S8x9100 .f32) (harg0 : arg0.IsWhole) (arg1 : Memref sig .tc .vmem S8x9100 .i32) (harg1 : arg1.IsWhole)
  (arg2 : Memref sig .tc .vmem S8x100x4 .f32) (harg2 : arg2.IsWhole) (arg3 : Memref sig .tc .vmem S8x2 .f32) (harg3 : arg3.IsWhole)
  (arg4 : Memref sig .tc .vmem S8x100 .f32) (harg4 : arg4.IsWhole) (arg5 : Memref sig .tc .vmem S8x100 .i32) (harg5 : arg5.IsWhole)
  (arg6 : Memref sig .tc .vmem S8x100x4 .f32) (harg6 : arg6.IsWhole) (arg7 : Memref sig .tc .vmem S8x9100 .f32) (harg7 : arg7.IsWhole)
  (x0 : Vec Ideal S8x9100 .f32) (x1 : Vec Ideal S8x9100 .i32) (x2 : Vec Ideal S8x100x4 .f32) (x3 : Vec Ideal S8x2 .f32)
  (v : Fin 8 → Fin 9100 → EReal) (f : Fin 8 → Fin 9100 → ℕ) (hinj : ∀ b, Function.Injective (f b))

/-- A column of the boxes, loaded. -/
theorem boxCol (j : Fin 4) {off : Fin 3 → ℕ} (ho : off = ![0, 0, j.val]) (inb : ∀ a, off a + (![8, 100, 1] : Fin 3 → ℕ) a ≤ S8x100x4.size a)
    (b : Fin 8) (r : Fin 100) :
    View.readAt (Elt Ideal) arg2.view (Rect.unit (s := S8x100x4) off ![8, 100, 1] inb).toLoadRect (harg2.unread x2) (ix3 b r 0)
      = x2 (ix3 b r j) := by
  subst ho
  rw [View.readAt_apply, harg2.read_unread]
  refine congrArg x2 (funext fun a => Fin.ext ?_)
  match a with
  | ⟨0, _⟩ => show 0 + 1 * b.val = b.val; omega
  | ⟨1, _⟩ => show 0 + 1 * r.val = r.val; omega
  | ⟨2, _⟩ => show j.val + 1 * 0 = j.val; omega

/-- A column of the sizes, loaded. -/
theorem sizeCol (j : Fin 2) {off : Fin 2 → ℕ} (ho : off = ![0, j.val]) (inb : ∀ a, off a + (![8, 1] : Fin 2 → ℕ) a ≤ S8x2.size a)
    (b : Fin 8) :
    View.readAt (Elt Ideal) arg3.view (Rect.unit (s := S8x2) off ![8, 1] inb).toLoadRect (harg3.unread x3) (ix2 b 0)
      = x3 (ix2 b j) := by
  subst ho
  rw [View.readAt_apply, harg3.read_unread]
  refine congrArg x3 (funext fun a => Fin.ext ?_)
  match a with
  | ⟨0, _⟩ => show 0 + 1 * b.val = b.val; omega
  | ⟨1, _⟩ => show j.val + 1 * 0 = j.val; omega

/-- The run's last state: the six slot arrays as the loop leaves them. -/
def fin2 : FVec Ideal S8x100 .f32 × IVec S8x100 32 × FVec Ideal S8x100 .f32 × FVec Ideal S8x100 .f32 × FVec Ideal S8x100 .f32
      × FVec Ideal S8x100 .f32 :=
  (st_k2_t1 Variants.none c none arg0 harg0 arg1 harg1 arg2 harg2 arg3 harg3 arg4 harg4 arg5 harg5 arg6 harg6 arg7 harg7
    (kernelRun2_A.sl.r c arg1 harg1 x1) k2_pay14 kernelRun2_A.sl.v32 (kernelRun2_A.sl.r_1 c arg2 harg2 x2)
    (kernelRun2_A.sl.r_2 c arg2 harg2 x2)
    (View.readAt (Elt Ideal) arg2.view (Rect.unit (s := S8x100x4) ![0, 0, 2] S8x100x1.size inb_S8x100x4_S8x100x1_0_0_2).toLoadRect (harg2.unread x2))
    (View.readAt (Elt Ideal) arg2.view (Rect.unit (s := S8x100x4) ![0, 0, 3] S8x100x1.size inb_S8x100x4_S8x100x1_0_0_3).toLoadRect (harg2.unread x2))
    (View.readAt (Elt Ideal) arg3.view (Rect.unit (s := S8x2) ![0, 0] S8x1.size inb_S8x2_S8x1_0_0).toLoadRect (harg3.unread x3))
    (View.readAt (Elt Ideal) arg3.view (Rect.unit (s := S8x2) ![0, 1] S8x1.size inb_S8x2_S8x1_0_1).toLoadRect (harg3.unread x3))
    (arg7.view.writes (Elt Ideal) arg7.view.junk (kernelRun2_A.sl.HS0_1 c arg0 harg0 x0))
    (k2_pay22, k2_pay23, k2_pay22, k2_pay22, k2_pay22, k2_pay22) 100).1

/-- The run's last state holds, slot by slot, the value, the class and the four corners of the lane of that rank. -/
theorem fin2_eq (hv : ∀ b r, v b r ≠ ⊥) (hf : ∀ b r, f b r < 2 ^ 30) (hx0 : x0 = fun i => v (i 0) (i 1))
    (hx1 : x1 = fun i => BitVec.ofNat 32 (f (i 0) (i 1))) (b : Fin 8) (j : Fin 100) :
    let s := fin2 c arg0 harg0 arg1 harg1 arg2 harg2 arg3 harg3 arg4 harg4 arg5 harg5 arg6 harg6 arg7 harg7 x0 x1 x2 x3
    let q := laneAt v f hinj b j
    let g := cornerOf (x2 (ix3 b (laneRow q) 0)) (x2 (ix3 b (laneRow q) 1)) (x2 (ix3 b (laneRow q) 2)) (x2 (ix3 b (laneRow q) 3))
      (x3 (ix2 b 0)) (x3 (ix2 b 1))
    s.1 (ix2 b j) = v b q ∧ s.2.1 (ix2 b j) = BitVec.ofNat 32 (f b q % 91) ∧ s.2.2.1 (ix2 b j) = g 0
      ∧ s.2.2.2.1 (ix2 b j) = g 1 ∧ s.2.2.2.2.1 (ix2 b j) = g 2 ∧ s.2.2.2.2.2 (ix2 b j) = g 3 := by
  intro s q g
  have e6 : kernelRun2_A.sl.r c arg1 harg1 x1 = flatWord f := by
    unfold kernelRun2_A.sl.r
    funext i
    obtain ⟨b, q, rfl⟩ : ∃ b q, i = ix2 b q := ⟨i 0, i 1, eq_ix2 i⟩
    pointwise [k2_pay13]
    rw [View.readAt_full arg1.view (harg1.unread x1) _, harg1.read_unread, hx1]
    rfl
  have e32 : kernelRun2_A.sl.v32 = slotWord := by
    unfold kernelRun2_A.sl.v32
    funext i
    obtain ⟨b, q, rfl⟩ : ∃ b q, i = ix2 b q := ⟨i 0, i 1, eq_ix2 i⟩
    pointwise []
    rfl
  have hG : arg7.view.read (Elt Ideal) (arg7.view.writes (Elt Ideal) arg7.view.junk (kernelRun2_A.sl.HS0_1 c arg0 harg0 x0)) = vvAt v f 0 := by
    unfold kernelRun2_A.sl.HS0_1
    dsimp only
    refine (View.read_writes_full arg7.view _ _ _ _).trans ?_
    funext i
    obtain ⟨b, q, rfl⟩ : ∃ b q, i = ix2 b q := ⟨i 0, i 1, eq_ix2 i⟩
    pointwise [k2_pay12]
    refine (congrFun ((View.readAt_full arg0.view (harg0.unread x0) _).trans (harg0.read_unread x0)) _).trans ?_
    rw [hx0]
    exact (congrFun (masked_zero (v b) (f b)) q).symm
  have h34 : ∀ (b : Fin 8) (r : Fin 100), kernelRun2_A.sl.r_1 c arg2 harg2 x2 (ix2 b r) = x2 (ix3 b r 0) := by
    intro b r
    unfold kernelRun2_A.sl.r_1
    pointwise [k2_pay15]
    exact boxCol arg2 harg2 x2 0 rfl _ b r
  have h36 : ∀ (b : Fin 8) (r : Fin 100), kernelRun2_A.sl.r_2 c arg2 harg2 x2 (ix2 b r) = x2 (ix3 b r 1) := by
    intro b r
    unfold kernelRun2_A.sl.r_2
    pointwise [k2_pay16]
    exact boxCol arg2 harg2 x2 1 rfl _ b r
  have hs : s = slots2 v f hinj (Ideal.ofBits .f32 0#32) (kernelRun2_A.sl.r_1 c arg2 harg2 x2) (kernelRun2_A.sl.r_2 c arg2 harg2 x2)
      (View.readAt (Elt Ideal) arg2.view (Rect.unit (s := S8x100x4) ![0, 0, 2] S8x100x1.size inb_S8x100x4_S8x100x1_0_0_2).toLoadRect (harg2.unread x2))
      (View.readAt (Elt Ideal) arg2.view (Rect.unit (s := S8x100x4) ![0, 0, 3] S8x100x1.size inb_S8x100x4_S8x100x1_0_0_3).toLoadRect (harg2.unread x2))
      (View.readAt (Elt Ideal) arg3.view (Rect.unit (s := S8x2) ![0, 0] S8x1.size inb_S8x2_S8x1_0_0).toLoadRect (harg3.unread x3))
      (View.readAt (Elt Ideal) arg3.view (Rect.unit (s := S8x2) ![0, 1] S8x1.size inb_S8x2_S8x1_0_1).toLoadRect (harg3.unread x3)) 100 := by
    show fin2 c arg0 harg0 arg1 harg1 arg2 harg2 arg3 harg3 arg4 harg4 arg5 harg5 arg6 harg6 arg7 harg7 x0 x1 x2 x3 = _
    unfold fin2
    rw [e6, e32]
    exact (st2_eq Variants.none c none arg0 harg0 arg1 harg1 arg2 harg2 arg3 harg3 arg4 harg4 arg5 harg5 arg6 harg6 arg7 harg7
      v f hinj hv hf _ _ _ _ _ _ _ _ hG 100 (le_refl _)).1
  have hlt : ∀ {α : Type} (z : α) (gg : Fin 8 → Fin 9100 → α), slotsAt v f hinj z gg 100 (ix2 b j) = gg b q :=
    fun z gg => if_pos j.isLt
  rw [hs]
  unfold slots2
  dsimp only
  refine ⟨hlt _ _, hlt _ _, (hlt _ _).trans ?_, (hlt _ _).trans ?_, (hlt _ _).trans ?_, (hlt _ _).trans ?_⟩
  · exact loCorner_of b (laneRow q) (h34 b (laneRow q)) (boxCol arg2 harg2 x2 2 rfl _ b (laneRow q)) (sizeCol arg3 harg3 x3 1 rfl _ b)
  · exact loCorner_of b (laneRow q) (h36 b (laneRow q)) (boxCol arg2 harg2 x2 3 rfl _ b (laneRow q)) (sizeCol arg3 harg3 x3 0 rfl _ b)
  · exact hiCorner_of b (laneRow q) (h34 b (laneRow q)) (boxCol arg2 harg2 x2 2 rfl _ b (laneRow q)) (sizeCol arg3 harg3 x3 1 rfl _ b)
  · exact hiCorner_of b (laneRow q) (h36 b (laneRow q)) (boxCol arg2 harg2 x2 3 rfl _ b (laneRow q)) (sizeCol arg3 harg3 x3 0 rfl _ b)

/-- The scores the final selection leaves. -/
theorem out2_4_at (hv : ∀ b r, v b r ≠ ⊥) (hf : ∀ b r, f b r < 2 ^ 30) (hx0 : x0 = fun i => v (i 0) (i 1))
    (hx1 : x1 = fun i => BitVec.ofNat 32 (f (i 0) (i 1))) (b : Fin 8) (j : Fin 100) :
    out2_A_4 c arg0 harg0 arg1 harg1 arg2 harg2 arg3 harg3 arg4 harg4 arg5 harg5 arg6 harg6 arg7 harg7 x0 x1 x2 x3 (ix2 b j)
      = v b (laneAt v f hinj b j) := by
  unfold out2_A_4 kernelRun2_A
  dsimp only
  refine (congrFun (View.read_writes_full VO2_4 _ _ _ _) _).trans ?_
  exact (fin2_eq c arg0 harg0 arg1 harg1 arg2 harg2 arg3 harg3 arg4 harg4 arg5 harg5 arg6 harg6 arg7 harg7 x0 x1 x2 x3 v f hinj hv hf hx0 hx1 b j).1

/-- The labels the final selection leaves. -/
theorem out2_5_at (hv : ∀ b r, v b r ≠ ⊥) (hf : ∀ b r, f b r < 2 ^ 30) (hx0 : x0 = fun i => v (i 0) (i 1))
    (hx1 : x1 = fun i => BitVec.ofNat 32 (f (i 0) (i 1))) (b : Fin 8) (j : Fin 100) :
    out2_A_5 c arg0 harg0 arg1 harg1 arg2 harg2 arg3 harg3 arg4 harg4 arg5 harg5 arg6 harg6 arg7 harg7 x0 x1 x2 x3 (ix2 b j)
      = BitVec.ofNat 32 (f b (laneAt v f hinj b j) % 91) := by
  unfold out2_A_5 kernelRun2_A
  dsimp only
  refine (congrFun (View.read_writes_full VO2_5 _ _ _ _) _).trans ?_
  exact (fin2_eq c arg0 harg0 arg1 harg1 arg2 harg2 arg3 harg3 arg4 harg4 arg5 harg5 arg6 harg6 arg7 harg7 x0 x1 x2 x3 v f hinj hv hf hx0 hx1 b j).2.1

/-- The boxes the final selection leaves. -/
theorem out2_6_at (hv : ∀ b r, v b r ≠ ⊥) (hf : ∀ b r, f b r < 2 ^ 30) (hx0 : x0 = fun i => v (i 0) (i 1))
    (hx1 : x1 = fun i => BitVec.ofNat 32 (f (i 0) (i 1))) (b : Fin 8) (j : Fin 100) (e : Fin 4) :
    out2_A_6 c arg0 harg0 arg1 harg1 arg2 harg2 arg3 harg3 arg4 harg4 arg5 harg5 arg6 harg6 arg7 harg7 x0 x1 x2 x3 (ix3 b j e)
      = cornerOf (x2 (ix3 b (laneRow (laneAt v f hinj b j)) 0)) (x2 (ix3 b (laneRow (laneAt v f hinj b j)) 1))
          (x2 (ix3 b (laneRow (laneAt v f hinj b j)) 2)) (x2 (ix3 b (laneRow (laneAt v f hinj b j)) 3))
          (x3 (ix2 b 0)) (x3 (ix2 b 1)) e := by
  obtain ⟨-, -, h0, h1, h2, h3⟩ := fin2_eq c arg0 harg0 arg1 harg1 arg2 harg2 arg3 harg3 arg4 harg4 arg5 harg5 arg6 harg6 arg7 harg7
    x0 x1 x2 x3 v f hinj hv hf hx0 hx1 b j
  unfold out2_A_6 kernelRun2_A
  dsimp only
  have hit : ∀ (w : Vec Ideal S8x100x1 .f32) (o : ℕ) (inb : ∀ a, (![0, 0, o] : Fin 3 → ℕ) a + (![8, 100, 1] : Fin 3 → ℕ) a ≤ S8x100x4.size a)
      (L : List (View.Piece (Elt Ideal) S8x100x4 .f32)) (e : Fin 4), e.val = o →
      VO2_6.read (Elt Ideal) (VO2_6.writes (Elt Ideal) VO2_6.junk (⟨Rect.unit ![0, 0, o] ![8, 100, 1] inb, w⟩ :: L)) (ix3 b j e)
        = w (ix3 b j 0) := by
    intro w o inb L e he
    subst he
    refine View.read_writes_cons_unit_of_mem VO2_6 _ inb w L (ix3 b j e) (ix3 b j 0) rfl (fun a => ?_)
    match a with
    | ⟨0, _⟩ => show b.val = 0 + b.val; omega
    | ⟨1, _⟩ => show j.val = 0 + j.val; omega
    | ⟨2, _⟩ => show e.val = e.val + 0; omega
  have miss : ∀ (w : Vec Ideal S8x100x1 .f32) (o : ℕ) (inb : ∀ a, (![0, 0, o] : Fin 3 → ℕ) a + (![8, 100, 1] : Fin 3 → ℕ) a ≤ S8x100x4.size a)
      (L : List (View.Piece (Elt Ideal) S8x100x4 .f32)) (e : Fin 4), e.val < o →
      VO2_6.read (Elt Ideal) (VO2_6.writes (Elt Ideal) VO2_6.junk (⟨Rect.unit ![0, 0, o] ![8, 100, 1] inb, w⟩ :: L)) (ix3 b j e)
        = VO2_6.read (Elt Ideal) (VO2_6.writes (Elt Ideal) VO2_6.junk L) (ix3 b j e) := by
    intro w o inb L e he
    exact View.read_writes_cons_unit_of_not_mem VO2_6 _ inb w L (ix3 b j e) rfl 2 (Or.inl he)
  match e with
  | ⟨0, h⟩ =>
    refine ((miss _ 3 _ _ ⟨0, h⟩ (show 0 < 3 by omega)).trans ((miss _ 2 _ _ ⟨0, h⟩ (show 0 < 2 by omega)).trans
      ((miss _ 1 _ _ ⟨0, h⟩ (show 0 < 1 by omega)).trans (hit _ 0 _ _ ⟨0, h⟩ rfl)))).trans ?_
    unfold kernelRun2_A.sl.r_6
    pointwise [k2_pay29]
    exact h0
  | ⟨1, h⟩ =>
    refine ((miss _ 3 _ _ ⟨1, h⟩ (show 1 < 3 by omega)).trans ((miss _ 2 _ _ ⟨1, h⟩ (show 1 < 2 by omega)).trans (hit _ 1 _ _ ⟨1, h⟩ rfl))).trans ?_
    unfold kernelRun2_A.sl.r_3
    pointwise [k2_pay1]
    exact h1
  | ⟨2, h⟩ =>
    refine ((miss _ 3 _ _ ⟨2, h⟩ (show 2 < 3 by omega)).trans (hit _ 2 _ _ ⟨2, h⟩ rfl)).trans ?_
    unfold kernelRun2_A.sl.r_4
    pointwise [k2_pay2]
    exact h2
  | ⟨3, h⟩ =>
    refine (hit _ 3 _ _ ⟨3, h⟩ rfl).trans ?_
    unfold kernelRun2_A.sl.r_5
    pointwise [k2_pay3]
    exact h3

end Outs

end Cert.TopRank
end
-- ==== Proof.Answer.lean ====
/-
  THE ANSWER. For every image the hundred best entries of the flattened table of probabilities, best first and the smaller position first
  among equals: their values, their classes, and the corners of their rows' boxes.
-/
module

public import proofs.«01_k».proof.Proof.Spec
public import proofs.«01_k».proof.Proof.Final

@[expose] public section

noncomputable section

namespace Cert.TopRank

variable (p : Fin 8 → Fin 20000 → Fin 91 → EReal)

/-- The value of the `k`-th best entry of image `b`. -/
def scoreAt (b : Fin 8) (k : Fin 100) : EReal := flatAt p b (posAt p b k)

/-- Its class, as a word. -/
def labelAt (b : Fin 8) (k : Fin 100) : BitVec 32 := BitVec.ofNat 32 ((posAt p b k).val % 91)

/-- Corner `e` of its row's box, from the boxes' centres and sides and the image's sizes. -/
def boxAt (B : Fin 8 → Fin 20000 → Fin 4 → EReal) (T : Fin 8 → Fin 2 → EReal) (b : Fin 8) (k : Fin 100) (e : Fin 4) : EReal :=
  cornerOf (B b (rowOf (posAt p b k)) 0) (B b (rowOf (posAt p b k)) 1) (B b (rowOf (posAt p b k)) 2) (B b (rowOf (posAt p b k)) 3)
    (T b 0) (T b 1) e

end Cert.TopRank
end
-- ==== Proof.Indexing.lean ====
/-
  INDEXED READS AND WRITES. A row taken by an in-range row number is that row; a column taken by its number is that column; one
  constant written over a column changes that column alone; and the in-range test of in-range numbers is true.
-/
module

public import Idealize.ShloMosaic.Lib.Pointwise
public import Idealize.ShloMosaic.Lib.WordArith
public import Idealize.ShloMosaic.Lib.Routing.Words

@[expose] public section

set_option maxRecDepth 16384

noncomputable section

namespace Cert.TopRank

open Idealize.ShloMosaic

/-! ## Words in range -/

theorem toInt_small (r : ℕ) (h : r < 2 ^ 31) : (BitVec.ofNat 32 r).toInt = (r : ℤ) := Idealize.ShloMosaic.WordCmp.toInt_ofNat_of_lt (w := 32) h

theorem slt_zero (r : ℕ) (h : r < 2 ^ 31) : IntOp.cmpi .slt (BitVec.ofNat 32 r) 0#32 = 0#1 := by
  show BitVec.ofBool ((BitVec.ofNat 32 r).slt 0#32) = 0#1
  have : (BitVec.ofNat 32 r).slt 0#32 = false := by
    rw [BitVec.slt_eq_decide, toInt_small r h]; simp
  rw [this]; rfl

theorem sge_zero (r : ℕ) (h : r < 2 ^ 31) : IntOp.cmpi .sge (BitVec.ofNat 32 r) 0#32 = 1#1 := by
  show BitVec.ofBool ((0#32).sle (BitVec.ofNat 32 r)) = 1#1
  have : (0#32).sle (BitVec.ofNat 32 r) = true := by
    rw [BitVec.sle_eq_decide, toInt_small r h]; simp
  rw [this]; rfl

theorem sle_const (r n : ℕ) (h : r ≤ n) (hn : n < 2 ^ 31) : IntOp.cmpi .sle (BitVec.ofNat 32 r) (BitVec.ofNat 32 n) = 1#1 := by
  show BitVec.ofBool ((BitVec.ofNat 32 r).sle (BitVec.ofNat 32 n)) = 1#1
  have : (BitVec.ofNat 32 r).sle (BitVec.ofNat 32 n) = true := by
    rw [BitVec.sle_eq_decide, toInt_small r (by omega), toInt_small n hn]; simpa using h
  rw [this]; rfl

/-! ## The conjunction of ones -/

theorem reduce_ones {s t u : Shape} {axes : List (Fin s.rank)} (x : IVec s 1) (init : IVec u 1) (h : s.ReducesTo axes t)
    (hu : 0 < u.numel) (hx : ∀ i, x i = 1#1) (hi : ∀ i, init i = 1#1) (j : t.Idx) : Host.reduce IntOp.andi x init h hu j = 1#1 := by
  unfold Host.reduce
  generalize (List.finRange s.numel).filter _ = l
  rw [hi]
  induction l with
  | nil => rfl
  | cons a l ih => rw [List.foldl_cons, hx]; exact ih

/-! ## Rows -/

section Rows

variable {α : Type} {n : ℕ}

/-- A row taken in each batch by its number. -/
theorem gather_rows (wf : GatherDims.WF ⟨3, ![8, 20000, n]⟩ ⟨3, ![8, 100, 1]⟩ ⟨3, ![8, 100, n]⟩ [2] [1] [0] [1] [0] 2 ![1, 1, n])
    (x : (⟨3, ![8, 20000, n]⟩ : Shape).Idx → α) (i : IVec ⟨3, ![8, 100, 1]⟩ 32) (b : Fin 8) (k : Fin 100) (q : Fin n) (r : Fin 20000)
    (hi : i (ix3 b k 0) = BitVec.ofNat 32 r.val) :
    Host.gather (⟨[2], [1], [0], [0], [1], 2, ![1, 1, n], wf⟩ : GatherDims ⟨3, ![8, 20000, n]⟩ ⟨3, ![8, 100, 1]⟩ ⟨3, ![8, 100, n]⟩)
      x i (ix3 b k q) = x (ix3 b r q) := by
  unfold Host.gather
  refine congrArg x (funext fun a => Fin.ext ?_)
  have hr := r.isLt
  match a with
  | ⟨0, _⟩ => show 0 + b.val + 0 = b.val; omega
  | ⟨1, _⟩ =>
    show min (i _).toInt.toNat (20000 - 1) + 0 + 0 = r.val
    refine (congrArg (fun w : BitVec 32 => min w.toInt.toNat (20000 - 1) + 0 + 0) (a₂ := BitVec.ofNat 32 r.val) ?_).trans ?_
    · refine Eq.trans (congrArg i ?_) hi
      funext c
      match c with
      | ⟨0, _⟩ => rfl
      | ⟨1, _⟩ => rfl
      | ⟨2, _⟩ => rfl
    · show min (BitVec.ofNat 32 r.val).toInt.toNat (20000 - 1) + 0 + 0 = r.val
      rw [toInt_small r.val (by omega)]; omega
  | ⟨2, _⟩ => show 0 + 0 + q.val = q.val; omega

/-- An entry taken in each batch and column by its row number. -/
theorem gather_entries (wf : GatherDims.WF ⟨3, ![8, 20000, 4]⟩ ⟨4, ![8, 100, 4, 1]⟩ ⟨3, ![8, 100, 4]⟩ [] [1] [0, 2] [1] [0, 2] 3 ![1, 1, 1])
    (x : (⟨3, ![8, 20000, 4]⟩ : Shape).Idx → α) (i : IVec ⟨4, ![8, 100, 4, 1]⟩ 32) (b : Fin 8) (k : Fin 100) (q : Fin 4) (r : Fin 20000)
    (hi : i (ix4 b k q 0) = BitVec.ofNat 32 r.val) :
    Host.gather (⟨[], [1], [0, 2], [0, 2], [1], 3, ![1, 1, 1], wf⟩ : GatherDims ⟨3, ![8, 20000, 4]⟩ ⟨4, ![8, 100, 4, 1]⟩ ⟨3, ![8, 100, 4]⟩)
      x i (ix3 b k q) = x (ix3 b r q) := by
  unfold Host.gather
  refine congrArg x (funext fun a => Fin.ext ?_)
  have hr := r.isLt
  match a with
  | ⟨0, _⟩ => show 0 + b.val + 0 = b.val; omega
  | ⟨1, _⟩ =>
    show min (i _).toInt.toNat (20000 - 1) + 0 + 0 = r.val
    refine (congrArg (fun w : BitVec 32 => min w.toInt.toNat (20000 - 1) + 0 + 0) (a₂ := BitVec.ofNat 32 r.val) ?_).trans ?_
    · refine Eq.trans (congrArg i ?_) hi
      funext c
      match c with
      | ⟨0, _⟩ => rfl
      | ⟨1, _⟩ => rfl
      | ⟨2, _⟩ => rfl
      | ⟨3, _⟩ => rfl
    · show min (BitVec.ofNat 32 r.val).toInt.toNat (20000 - 1) + 0 + 0 = r.val
      rw [toInt_small r.val (by omega)]; omega
  | ⟨2, _⟩ => show 0 + q.val + 0 = q.val; omega

/-- A column taken by its number. -/
theorem gather_cols (wf : GatherDims.WF ⟨3, ![8, 20000, 12]⟩ ⟨2, ![91, 1]⟩ ⟨3, ![8, 20000, 91]⟩ [0, 1] [2] [] [2] [] 1 ![8, 20000, 1])
    (x : (⟨3, ![8, 20000, 12]⟩ : Shape).Idx → α) (i : IVec ⟨2, ![91, 1]⟩ 32) (b : Fin 8) (r : Fin 20000) (q : Fin 91) (c : Fin 12)
    (hi : i (ix2 q 0) = BitVec.ofNat 32 c.val) :
    Host.gather (⟨[0, 1], [2], [], [], [2], 1, ![8, 20000, 1], wf⟩ : GatherDims ⟨3, ![8, 20000, 12]⟩ ⟨2, ![91, 1]⟩ ⟨3, ![8, 20000, 91]⟩)
      x i (ix3 b r q) = x (ix3 b r c) := by
  unfold Host.gather
  refine congrArg x (funext fun a => Fin.ext ?_)
  have hc := c.isLt
  match a with
  | ⟨0, _⟩ => show 0 + 0 + b.val = b.val; omega
  | ⟨1, _⟩ => show 0 + 0 + r.val = r.val; omega
  | ⟨2, _⟩ =>
    show min (i _).toInt.toNat (12 - 1) + 0 + 0 = c.val
    refine (congrArg (fun w : BitVec 32 => min w.toInt.toNat (12 - 1) + 0 + 0) (a₂ := BitVec.ofNat 32 c.val) ?_).trans ?_
    · refine Eq.trans (congrArg i ?_) hi
      funext c
      match c with
      | ⟨0, _⟩ => rfl
      | ⟨1, _⟩ => rfl
    · show min (BitVec.ofNat 32 c.val).toInt.toNat (12 - 1) + 0 + 0 = c.val
      rw [toInt_small c.val (by omega)]; omega

end Rows

/-! ## One column overwritten -/

/-- A scatter that overwrites with one constant holds the constant where some update lands, and the operand elsewhere. -/
theorem scatter_const {α : Type} {s si u : Shape} (d : ScatterDims s si u) (x : s.Idx → α) (idx : IVec si 32) (v : α) (upd : u.Idx → α)
    (hv : ∀ j, upd j = v) (i : s.Idx) [Decidable (∃ j, d.resultIdx? j idx = some i)] :
    Host.scatter d (fun _ b => b) x idx upd i = if ∃ j, d.resultIdx? j idx = some i then v else x i := by
  unfold Host.scatter
  have key : ∀ (l : List (Fin u.numel)) (y : s.Idx → α) (P : Prop) [Decidable P], y i = (if P then v else x i) →
      ∀ [Decidable (P ∨ ∃ n ∈ l, d.resultIdx? (u.rowMajor.symm n) idx = some i)],
      l.foldl (fun r n => match d.resultIdx? (u.rowMajor.symm n) idx with
        | some i => fun i' => if i' = i then upd (u.rowMajor.symm n) else r i'
        | none => r) y i = if P ∨ ∃ n ∈ l, d.resultIdx? (u.rowMajor.symm n) idx = some i then v else x i := by
    intro l
    induction l with
    | nil =>
      intro y P _ hy _
      rw [List.foldl_nil, hy]
      exact if_congr (by simp) rfl rfl
    | cons n l ih =>
      intro y P _ hy _
      rw [List.foldl_cons]
      classical
      refine (ih _ (P ∨ d.resultIdx? (u.rowMajor.symm n) idx = some i) ?_).trans (if_congr ?_ rfl rfl)
      · generalize d.resultIdx? (u.rowMajor.symm n) idx = o
        cases o with
        | none => simp only [reduceCtorEq, or_false]; exact hy
        | some k =>
          simp only [Option.some.injEq]
          by_cases e : i = k
          · subst e; rw [if_pos rfl, hv, if_pos (Or.inr rfl)]
          · rw [if_neg e, hy]
            exact if_congr (by simp [Ne.symm e]) rfl rfl
      · simp only [List.mem_cons, exists_eq_or_imp, or_assoc]
  classical
  refine (key (List.finRange u.numel) x False (by rw [if_neg not_false])).trans (if_congr ?_ rfl rfl)
  constructor
  · rintro (h | ⟨n, -, h⟩)
    · exact h.elim
    · exact ⟨_, h⟩
  · rintro ⟨j, h⟩
    exact .inr ⟨u.rowMajor j, List.mem_finRange _, by rw [Equiv.symm_apply_apply]; exact h⟩

/-- A column overwritten by one constant. -/
theorem scatter_col {α : Type} {n : ℕ} (wf : ScatterDims.WF ⟨3, ![8, 20000, n]⟩ ⟨2, ![1, 1]⟩ ⟨3, ![8, 20000, 1]⟩ [0, 1] [2] [2] 1)
    (x : (⟨3, ![8, 20000, n]⟩ : Shape).Idx → α) (idx : IVec ⟨2, ![1, 1]⟩ 32) (v : α) (upd : (⟨3, ![8, 20000, 1]⟩ : Shape).Idx → α)
    (hv : ∀ j, upd j = v) (w : ℕ) (hw : w < n) (hn : n < 2 ^ 31) (hi : ∀ j, idx j = BitVec.ofNat 32 w) (b : Fin 8) (r : Fin 20000) (c : Fin n) :
    Host.scatter (⟨[0, 1], [2], [2], 1, wf⟩ : ScatterDims ⟨3, ![8, 20000, n]⟩ ⟨2, ![1, 1]⟩ ⟨3, ![8, 20000, 1]⟩) (fun _ b => b) x idx upd (ix3 b r c)
      = if c.val = w then v else x (ix3 b r c) := by
  classical
  rw [scatter_const _ x idx v upd hv (ix3 b r c)]
  have key : ∀ j : (⟨3, ![8, 20000, 1]⟩ : Shape).Idx,
      (⟨[0, 1], [2], [2], 1, wf⟩ : ScatterDims ⟨3, ![8, 20000, n]⟩ ⟨2, ![1, 1]⟩ ⟨3, ![8, 20000, 1]⟩).resultIdx? j idx
        = some (ix3 (j 0) (j 1) ⟨w, hw⟩) := by
    intro j
    have h0 : (⟨[0, 1], [2], [2], 1, wf⟩ : ScatterDims ⟨3, ![8, 20000, n]⟩ ⟨2, ![1, 1]⟩ ⟨3, ![8, 20000, 1]⟩).start j idx 0
        + (⟨[0, 1], [2], [2], 1, wf⟩ : ScatterDims ⟨3, ![8, 20000, n]⟩ ⟨2, ![1, 1]⟩ ⟨3, ![8, 20000, 1]⟩).window j 0 = ((j 0).val : ℤ) := by
      show (0 : ℤ) + ((j 0).val : ℤ) = _
      omega
    have h1 : (⟨[0, 1], [2], [2], 1, wf⟩ : ScatterDims ⟨3, ![8, 20000, n]⟩ ⟨2, ![1, 1]⟩ ⟨3, ![8, 20000, 1]⟩).start j idx 1
        + (⟨[0, 1], [2], [2], 1, wf⟩ : ScatterDims ⟨3, ![8, 20000, n]⟩ ⟨2, ![1, 1]⟩ ⟨3, ![8, 20000, 1]⟩).window j 1 = ((j 1).val : ℤ) := by
      show (0 : ℤ) + ((j 1).val : ℤ) = _
      omega
    have h2 : (⟨[0, 1], [2], [2], 1, wf⟩ : ScatterDims ⟨3, ![8, 20000, n]⟩ ⟨2, ![1, 1]⟩ ⟨3, ![8, 20000, 1]⟩).start j idx 2
        + (⟨[0, 1], [2], [2], 1, wf⟩ : ScatterDims ⟨3, ![8, 20000, n]⟩ ⟨2, ![1, 1]⟩ ⟨3, ![8, 20000, 1]⟩).window j 2 = (w : ℤ) := by
      show (idx _).toInt + ((0 : ℕ) : ℤ) = _
      rw [hi, toInt_small w (by omega)]; omega
    have b0 : ((j 0).val : ℤ) < (8 : ℕ) := by exact_mod_cast (show (j 0).val < 8 from (j 0).isLt)
    have b1 : ((j 1).val : ℤ) < (20000 : ℕ) := by exact_mod_cast (show (j 1).val < 20000 from (j 1).isLt)
    unfold ScatterDims.resultIdx?
    rw [dif_pos ?_]
    · refine congrArg some (funext fun a => Fin.ext ?_)
      match a with
      | ⟨0, _⟩ => exact (congrArg Int.toNat h0).trans (Int.toNat_natCast _)
      | ⟨1, _⟩ => exact (congrArg Int.toNat h1).trans (Int.toNat_natCast _)
      | ⟨2, _⟩ => exact (congrArg Int.toNat h2).trans (Int.toNat_natCast _)
    · intro a
      match a with
      | ⟨0, _⟩ => exact ⟨h0.symm ▸ Int.natCast_nonneg _, h0.symm ▸ b0⟩
      | ⟨1, _⟩ => exact ⟨h1.symm ▸ Int.natCast_nonneg _, h1.symm ▸ b1⟩
      | ⟨2, _⟩ => exact ⟨h2.symm ▸ Int.natCast_nonneg _, h2.symm ▸ (by exact_mod_cast hw)⟩
  refine if_congr ⟨?_, ?_⟩ rfl rfl
  · rintro ⟨j, hj⟩
    have := congrFun (Option.some.inj ((key j).symm.trans hj)) 2
    exact (congrArg Fin.val this).symm
  · intro h
    refine ⟨ix3 b r 0, (key _).trans (congrArg some ?_)⟩
    funext a
    match a with
    | ⟨0, _⟩ => rfl
    | ⟨1, _⟩ => rfl
    | ⟨2, _⟩ => exact Fin.ext h.symm

end Cert.TopRank
end
-- ==== Proof.Stage1.lean ====
/-
  THE FIRST STAGE. A block of a thousand rows: each entry is the logistic of its masked logit times the one-hot contraction of the
  superclass logistics, which picks the superclass of the entry's class; and each row's greatest entry. Over the hundred and sixty
  blocks the two arrays are the probabilities and the row maxima of the argument arrays' rows.
-/
module

public import Idealize.ShloMosaic.Lib.VecWindow
public import Idealize.ShloMosaic.Lib.Pointwise
public import Idealize.ShloMosaic.Lib.Pipeline.ValueKit
public import Idealize.ShloMosaic.Lib.IdealHost
public import proofs.«01_k».proof.Proof.Spec
public import proofs.«01_k».proof.Proof.RowOps
public import proofs.«01_k».proof.Proof.Gen.KernelIdeal.Frame

@[expose] public section

set_option maxRecDepth 16384

noncomputable section

namespace Cert.TopRank

open Idealize.ShloMosaic Cert.KernelIdeal Cert.KernelIdeal.Gen
open Idealize.ShloMosaic.TcCoe

/-! ## One block -/

/-- A class number compared with a constant chooses as the numbers compare. -/
theorem select_class (c d : ℕ) (hc : c < 2 ^ 32) (hd : d < 2 ^ 32) (x y : EReal) :
    Scalar.select (IntOp.cmpi .eq (BitVec.ofNat 32 c) (BitVec.ofNat 32 d)) x y = if c = d then x else y := by
  by_cases h : c = d
  · subst h; rw [if_pos rfl]
    have : IntOp.cmpi .eq (BitVec.ofNat 32 c) (BitVec.ofNat 32 c) = 1#1 := by simp [IntOp.cmpi]
    rw [this]; rfl
  · rw [if_neg h]
    have hne : BitVec.ofNat 32 c ≠ BitVec.ofNat 32 d := fun e => h (by
      have := congrArg BitVec.toNat e
      rwa [BitVec.toNat_ofNat, BitVec.toNat_ofNat, Nat.mod_eq_of_lt hc, Nat.mod_eq_of_lt hd] at this)
    have : IntOp.cmpi .eq (BitVec.ofNat 32 c) (BitVec.ofNat 32 d) = 0#1 := by
      show BitVec.ofBool (BitVec.ofNat 32 c == BitVec.ofNat 32 d) = 0#1
      rw [beq_eq_false_iff_ne.mpr hne]; rfl
    rw [this]; rfl

/-- The one-hot table holds one at a class's superclass. -/
def hot (z : Vec Ideal S128x91 .f32) : Prop :=
  ∀ (r : Fin 12) (q : Fin 91), z (ix2 ⟨r.val, by have := r.isLt; omega⟩ q) = if r.val = q.val % 12 then 1 else 0

theorem pay1_at (x : Vec Ideal S1000x91 .f32) (y : Vec Ideal S1000x12 .f32) (z : Vec Ideal S128x91 .f32) (hz : hot z)
    (b : Fin 1000) (q : Fin 91) : k0_pay1 x y z (ix2 b q) = cell (fun c => x (ix2 b c)) (fun c => y (ix2 b c)) q := by
  pointwise [k0_pay1]
  have hq := q.isLt
  have e1 : ∀ r : Fin 12, z (ix2 ⟨r.val, by have := r.isLt; omega⟩ q) = if r = ⟨q.val % 12, Nat.mod_lt _ (by decide)⟩ then 1 else 0 := by
    intro r; rw [hz r q]; simp only [Fin.ext_iff]
  have e2 : ∀ r : Fin 12, Scalar.select (IntOp.cmpi .eq (BitVec.ofNat 32 r.val) 11#32) (Ideal.ofBits FTy.f32 3518645175#32) (y (ix2 b r))
      = barred r.val 11 (y (ix2 b r)) := fun r => select_class r.val 11 (by have := r.isLt; omega) (by decide) _ _
  have e3 : Scalar.select (IntOp.cmpi .eq (BitVec.ofNat 32 q.val) 90#32) (Ideal.ofBits FTy.f32 3518645175#32) (x (ix2 b q))
      = barred q.val 90 (x (ix2 b q)) := select_class q.val 90 (by omega) (by decide) _ _
  rw [e3]
  unfold cell
  refine congrArg _ ?_
  have e4 : ∀ f : Fin 116 → EReal, (∑ r, 0 * f r) = 0 := fun f => Finset.sum_eq_zero fun r _ => zero_mul _
  rw [e4, add_zero]
  refine (Finset.sum_congr rfl fun r _ => ?_ : _ = ∑ r : Fin 12, if r = ⟨q.val % 12, Nat.mod_lt _ (by decide)⟩
    then Ideal.logistic (barred r.val 11 (y (ix2 b r))) else 0).trans ?_
  · rw [e1, e2]; split
    · exact mul_one _
    · exact mul_zero _
  · rw [Finset.sum_ite_eq' Finset.univ, if_pos (Finset.mem_univ _)]

theorem pay2_at (x : Vec Ideal S1000x91 .f32) (y : Vec Ideal S1000x12 .f32) (z : Vec Ideal S128x91 .f32) (hz : hot z)
    (b : Fin 1000) : k0_pay2 x y z (ix2 b 0)
      = (Finset.univ : Finset (Fin 91)).sup (cell (fun c => x (ix2 b c)) (fun c => y (ix2 b c))) := by
  pointwise [k0_pay2]
  refine (congrArg (fun f => Finset.fold max _ f _) (funext fun q => pay1_at x y z hz b q)).trans ?_
  obtain ⟨c, hc⟩ := rowMax_at (fun _ _ => cell (fun c => x (ix2 b c)) (fun c => y (ix2 b c))) 0 0
  exact fold_max_eq _ _ c (fun q => Finset.le_sup (f := cell (fun c => x (ix2 b c)) (fun c => y (ix2 b c))) (Finset.mem_univ q)) hc

theorem out0_3_at (x : Vec Ideal S1000x91 .f32) (y : Vec Ideal S1000x12 .f32) (z : Vec Ideal S128x91 .f32) (hz : hot z)
    (b : Fin 1000) (q : Fin 91) : out0_3 x y z (ix2 b q) = cell (fun c => x (ix2 b c)) (fun c => y (ix2 b c)) q := by
  unfold out0_3
  frame_out
  exact pay1_at x y z hz b q

theorem out0_4_at (x : Vec Ideal S1000x91 .f32) (y : Vec Ideal S1000x12 .f32) (z : Vec Ideal S128x91 .f32) (hz : hot z)
    (b : Fin 1000) : out0_4 x y z (ix2 b 0)
      = (Finset.univ : Finset (Fin 91)).sup (cell (fun c => x (ix2 b c)) (fun c => y (ix2 b c))) := by
  unfold out0_4
  frame_out
  exact pay2_at x y z hz b

/-! ## The arrays -/

/-- The probabilities of the rows of two arrays. -/
def cells (X : Vec Ideal S160000x91 .f32) (Y : Vec Ideal S160000x12 .f32) (r : Fin 160000) : Fin 91 → EReal :=
  cell (fun q => X (ix2 r q)) (fun q => Y (ix2 r q))

/-- All of them. -/
def probArr (X : Vec Ideal S160000x91 .f32) (Y : Vec Ideal S160000x12 .f32) : Vec Ideal S160000x91 .f32 :=
  fun i => cells X Y (i 0) (i 1)

/-- The greatest of each row. -/
def maxArr (X : Vec Ideal S160000x91 .f32) (Y : Vec Ideal S160000x12 .f32) : Vec Ideal S160000x1 .f32 :=
  fun i => (Finset.univ : Finset (Fin 91)).sup (cells X Y (i 0))

variable (V : (c : Dev nD) → (b : Ref sig .tc) → Buf (Elt Ideal) ((c : Thread nD τ).loc b))

theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![t.val, 0] := (by decide +kernel : ∀ t : Fin grid0.N, _)

/-- The third input's block is the whole table. -/
theorem hot_block (c : Dev nD) (hz : hot (V c main_cst)) (t : Fin cfg0.N) : hot (iblk0 V c 2 t) := by
  intro r q
  blk_simp [iblk0]
  have e : (win0_2.blk t).view.emb (ix2 (⟨r.val, by have := r.isLt; omega⟩ : Fin 128) q)
      = (ix2 (⟨r.val, by have := r.isLt; omega⟩ : Fin 128) q : S128x91.Idx) := by
    blk_ext [index0_2]
  exact (congrArg (V c main_cst) e).trans (hz r q)

/-- Row `b` of block `t`. -/
def rowIn (t : Fin cfg0.N) (b : Fin 1000) : Fin 160000 :=
  ⟨t.val * 1000 + b.val, by have := (show t.val < 160 from t.isLt); have := b.isLt; omega⟩

theorem block_x (c : Dev nD) (t : Fin cfg0.N) (b : Fin 1000) (q : Fin 91) :
    iblk0 V c 0 t (ix2 b q) = V c main_v0 (ix2 (rowIn t b) q) := by
  blk_simp [iblk0]
  have e : (win0_0.blk t).view.emb (ix2 b q) = (ix2 (rowIn t b) q : S160000x91.Idx) := by
    blk_ext [index0_0, rowIn]
  exact congrArg (V c main_v0) e

theorem block_y (c : Dev nD) (t : Fin cfg0.N) (b : Fin 1000) (q : Fin 12) :
    iblk0 V c 1 t (ix2 b q) = V c main_v1 (ix2 (rowIn t b) q) := by
  blk_simp [iblk0]
  have e : (win0_1.blk t).view.emb (ix2 b q) = (ix2 (rowIn t b) q : S160000x12.Idx) := by
    blk_ext [index0_1, rowIn]
  exact congrArg (V c main_v1) e

/-- The first output array holds the probabilities. -/
theorem arr0_3 (c : Dev nD) (hz : hot (V c main_cst)) :
    (dat0 V c).arrAt 3 cfg0.N = probArr (V c main_v0) (V c main_v1) := by
  refine (dat0 V c).arrAt_eq_of_covers 3 _ (by decide +kernel) fun t hf y => ?_
  blk_simp
  rw [after0_3]
  obtain ⟨b, q, rfl⟩ : ∃ (b : Fin 1000) (q : Fin 91), y = ix2 b q := ⟨y 0, y 1, eq_ix2 y⟩
  refine (out0_3_at _ _ _ (hot_block V c hz t) b q).trans ?_
  have e : (win0_3.blk t).view.emb (ix2 b q) = (ix2 (rowIn t b) q : S160000x91.Idx) := by
    blk_ext [index0_3, rowIn]
  refine Eq.trans ?_ (congrArg (probArr (V c main_v0) (V c main_v1)) e).symm
  show _ = cell (fun q => V c main_v0 (ix2 (rowIn t b) q)) (fun q => V c main_v1 (ix2 (rowIn t b) q)) q
  exact congrArg₂ (fun f g => cell f g q) (funext fun q => block_x V c t b q) (funext fun q => block_y V c t b q)

/-- The second output array holds the row maxima. -/
theorem arr0_4 (c : Dev nD) (hz : hot (V c main_cst)) :
    (dat0 V c).arrAt 4 cfg0.N = maxArr (V c main_v0) (V c main_v1) := by
  refine (dat0 V c).arrAt_eq_of_covers 4 _ (by decide +kernel) fun t hf y => ?_
  blk_simp
  rw [after0_4]
  obtain ⟨b, rfl⟩ : ∃ (b : Fin 1000), y = ix2 b (0 : Fin 1) :=
    ⟨y 0, (eq_ix2 y).trans (congrArg (ix2 (y 0)) (Subsingleton.elim (α := Fin 1) _ _))⟩
  refine (out0_4_at _ _ _ (hot_block V c hz t) b).trans ?_
  have e : (win0_4.blk t).view.emb (ix2 b (0 : Fin 1)) = (ix2 (rowIn t b) (0 : Fin 1) : S160000x1.Idx) := by
    blk_ext [index0_4, rowIn]
  refine Eq.trans ?_ (congrArg (maxArr (V c main_v0) (V c main_v1)) e).symm
  show _ = (Finset.univ : Finset (Fin 91)).sup
    (cell (fun q => V c main_v0 (ix2 (rowIn t b) q)) (fun q => V c main_v1 (ix2 (rowIn t b) q)))
  exact congrArg₂ (fun f g => (Finset.univ : Finset (Fin 91)).sup (cell f g))
    (funext fun q => block_x V c t b q) (funext fun q => block_y V c t b q)

end Cert.TopRank
end
-- ==== Proof.Host.lean ====
/-
  BETWEEN THE CALLS. What the host operations leave: the argument arrays with their two leading axes joined, the row maxima with them
  parted again, the candidates' rows of probabilities and of boxes, the flat position of every lane, and the sizes as numbers.
-/
module

public import Idealize.ShloMosaic.Lib.StableHlo.Run
public import Idealize.ShloMosaic.Lib.Pointwise
public import proofs.«01_k».proof.Proof.Indexing
public import proofs.«01_k».proof.Proof.Stage1
public import proofs.«01_k».proof.Proof.Gen.KernelIdeal.Frame

@[expose] public section

set_option maxRecDepth 16384

noncomputable section

namespace Cert.TopRank

open Idealize.ShloMosaic Cert.KernelIdeal Cert.KernelIdeal.Gen Idealize.ShloMosaic.StableHlo
open Idealize.ShloMosaic.TcCoe

/-! ## Rows taken by number -/

/-- The row numbers, a negative one counted from the end. -/
def wrapped (i : IVec S8x100x1 32) : IVec S8x100x1 32 :=
  select (cmpi .slt i (broadcastInDim S8x100x1 ![] bcast_S_S8x100x1 (constantI S_ 32 0#32)))
    (addi i (broadcastInDim S8x100x1 ![] bcast_S_S8x100x1 (constantI S_ 32 20000#32))) i

/-- Whether the row numbers are in range. -/
def inRange (i : IVec S8x100x1 32) : IVec S8x100 1 :=
  Host.reduce IntOp.andi
    (andi (cmpi .sge i (broadcastInDim S8x100x1 ![] bcast_S_S8x100x1 (constantI S_ 32 0#32)))
      (cmpi .sle i (broadcastInDim S8x100x1 ![0, 1, 2] bcast_S1x1x1_S8x100x1_0_1_2
        (broadcastInDim S1x1x1 ![2] bcast_S1_S1x1x1_2 (constantI S1 32 19999#32)))))
    (constantI S_ 1 1#1) reducesTo_S8x100x1_S8x100_d2 h_S_

section

variable (R : Fin 8 → Fin 100 → Fin 20000) (i : IVec S8x100x1 32) (hi : ∀ b k, i (ix3 b k 0) = BitVec.ofNat 32 (R b k).val)

include hi

theorem wrapped_at (b : Fin 8) (k : Fin 100) : wrapped i (ix3 b k 0) = BitVec.ofNat 32 (R b k).val := by
  have h := (R b k).isLt
  show Scalar.select (IntOp.cmpi .slt (i (ix3 b k 0)) 0#32) _ (i (ix3 b k 0)) = _
  rw [hi, slt_zero _ (by omega)]
  rfl

theorem inRange_at (j : S8x100.Idx) : inRange i j = 1#1 := by
  refine reduce_ones _ _ _ _ (fun x => ?_) (fun _ => rfl) j
  obtain ⟨b, k, z, rfl⟩ : ∃ (b : Fin 8) (k : Fin 100) (z : Fin 1), x = ix3 b k z := ⟨x 0, x 1, x 2, eq_ix3 x⟩
  obtain rfl : z = 0 := Subsingleton.elim _ _
  have h := (R b k).isLt
  show IntOp.andi (IntOp.cmpi .sge (i (ix3 b k 0)) 0#32) (IntOp.cmpi .sle (i (ix3 b k 0)) (BitVec.ofNat 32 19999)) = 1#1
  rw [hi, sge_zero _ (by omega), sle_const _ _ (by omega) (by decide)]
  rfl

end

variable (X : Valuation τ sig (Elt Ideal))

/-- The candidates' rows of probabilities. -/
theorem v7_eq (R : Fin 8 → Fin 100 → Fin 20000)
    (h6 : ∀ b k, (X (Proc.devRef .tc main_v6) : IVec S8x100x1 32) (ix3 b k 0) = BitVec.ofNat 32 (R b k).val) :
    after (hostOps2_1 (F := Ideal)) X (Proc.devRef .tc main_v7)
      = (fun i => (X (Proc.devRef .tc main_v5) : Vec Ideal S8x20000x91 .f32) (ix3 (i 0) (R (i 0) (i 1)) (i 2)) : Vec Ideal S8x100x91 .f32) := by
  simp only [hostOps2_1, TRef.binary, TRef.nullary, TRef.reshape, TRef.ternary, TRef.unary, TRef.toBuf, TRef.ofBuf, cast_eq]
  after_results_simp
  funext j
  obtain ⟨b, k, q, rfl⟩ : ∃ (b : Fin 8) (k : Fin 100) (q : Fin 91), j = ix3 b k q := ⟨j 0, j 1, j 2, eq_ix3 j⟩
  show Scalar.select (inRange (wrapped (X (Proc.devRef .tc main_v6))) _)
    (Host.gather gather_S8x20000x91_S8x100x1_S8x100x91_2_1_0_0_1_2_1191 (X (Proc.devRef .tc main_v5))
      (wrapped (X (Proc.devRef .tc main_v6))) (ix3 b k q)) _ = _
  rw [inRange_at R _ (wrapped_at R _ h6)]
  exact gather_rows _ _ _ b k q (R b k) (wrapped_at R _ h6 b k)

/-- The candidates' boxes. -/
theorem v9_eq (R : Fin 8 → Fin 100 → Fin 20000)
    (h8 : ∀ b k, (X (Proc.devRef .tc main_v8) : IVec S8x100x1 32) (ix3 b k 0) = BitVec.ofNat 32 (R b k).val) :
    after (hostOps2_3 (F := Ideal)) X (Proc.devRef .tc main_v9)
      = (fun i => (X (Proc.devRef .tc main_arg1) : Vec Ideal S8x20000x4 .f32) (ix3 (i 0) (R (i 0) (i 1)) (i 2)) : Vec Ideal S8x100x4 .f32) := by
  simp only [hostOps2_3, TRef.binary, TRef.nullary, TRef.reshape, TRef.ternary, TRef.unary, TRef.toBuf, TRef.ofBuf, cast_eq]
  after_results_simp
  funext j
  obtain ⟨b, k, q, rfl⟩ : ∃ (b : Fin 8) (k : Fin 100) (q : Fin 4), j = ix3 b k q := ⟨j 0, j 1, j 2, eq_ix3 j⟩
  show Scalar.select (inRange (wrapped (X (Proc.devRef .tc main_v8))) _)
    (Host.gather gather_S8x20000x4_S8x100x1_S8x100x4_2_1_0_0_1_2_114 (X (Proc.devRef .tc main_arg1))
      (wrapped (X (Proc.devRef .tc main_v8))) (ix3 b k q)) _ = _
  rw [inRange_at R _ (wrapped_at R _ h8)]
  exact gather_rows _ _ _ b k q (R b k) (wrapped_at R _ h8 b k)

/-! ## Axes joined and parted -/

theorem v0_at (b : Fin 8) (r : Fin 20000) (q : Fin 91) :
    (after (hostOps0 (F := Ideal)) X (Proc.devRef .tc main_v0) : Vec Ideal S160000x91 .f32)
        (ix2 ⟨b.val * 20000 + r.val, by have := b.isLt; have := r.isLt; omega⟩ q)
      = (X (Proc.devRef .tc main_arg0) : Vec Ideal S8x20000x91 .f32) (ix3 b r q) := by
  simp only [hostOps0]
  after_results_simp
  pointwise []

theorem v1_at (b : Fin 8) (r : Fin 20000) (q : Fin 12) :
    (after (hostOps0 (F := Ideal)) X (Proc.devRef .tc main_v1) : Vec Ideal S160000x12 .f32)
        (ix2 ⟨b.val * 20000 + r.val, by have := b.isLt; have := r.isLt; omega⟩ q)
      = (X (Proc.devRef .tc main_arg2) : Vec Ideal S8x20000x12 .f32) (ix3 b r q) := by
  simp only [hostOps0]
  after_results_simp
  pointwise []

theorem v3_at (b : Fin 8) (r : Fin 20000) :
    (after (hostOps1 (F := Ideal)) X (Proc.devRef .tc main_v3) : Vec Ideal S8x20000 .f32) (ix2 b r)
      = (X (Proc.devRef .tc main_v2_1) : Vec Ideal S160000x1 .f32)
        (ix2 ⟨b.val * 20000 + r.val, by have := b.isLt; have := r.isLt; omega⟩ 0) := by
  simp only [hostOps1]
  after_results_simp
  pointwise []

theorem v5_at (b : Fin 8) (r : Fin 20000) (q : Fin 91) :
    (after (hostOps2 (F := Ideal)) X (Proc.devRef .tc main_v5) : Vec Ideal S8x20000x91 .f32) (ix3 b r q)
      = (X (Proc.devRef .tc main_v2_0) : Vec Ideal S160000x91 .f32)
        (ix2 ⟨b.val * 20000 + r.val, by have := b.isLt; have := r.isLt; omega⟩ q) := by
  simp only [hostOps2]
  after_results_simp
  pointwise []

theorem v18_at (b : Fin 8) (l : Fin 9100) :
    (after (hostOps2_4 (F := Ideal)) X (Proc.devRef .tc main_v18) : Vec Ideal S8x9100 .f32) (ix2 b l)
      = (X (Proc.devRef .tc main_v7) : Vec Ideal S8x100x91 .f32) (ix3 b (laneCand l) (laneCls l)) := by
  simp only [hostOps2_4]
  after_results_simp
  pointwise []
  rfl

theorem v19_at (b : Fin 8) (l : Fin 9100) :
    (after (hostOps2_4 (F := Ideal)) X (Proc.devRef .tc main_v19) : Vec Ideal S8x9100 .i32) (ix2 b l)
      = IntOp.addi (IntOp.muli ((X (Proc.devRef .tc main_v4) : Vec Ideal S8x100 .i32) (ix2 b (laneCand l))) 91#32) (BitVec.ofNat 32 (laneCls l).val) := by
  simp only [hostOps2_4]
  after_results_simp
  pointwise []
  rfl

theorem v6_at (b : Fin 8) (k : Fin 100) :
    (after (hostOps2 (F := Ideal)) X (Proc.devRef .tc main_v6) : Vec Ideal S8x100x1 .i32) (ix3 b k 0)
      = (X (Proc.devRef .tc main_v4) : Vec Ideal S8x100 .i32) (ix2 b k) := by
  simp only [hostOps2]
  after_results_simp
  pointwise []

theorem v8_at (b : Fin 8) (k : Fin 100) :
    (after (hostOps2_2 (F := Ideal)) X (Proc.devRef .tc main_v8) : Vec Ideal S8x100x1 .i32) (ix3 b k 0)
      = (X (Proc.devRef .tc main_v4) : Vec Ideal S8x100 .i32) (ix2 b k) := by
  simp only [hostOps2_2]
  after_results_simp
  pointwise []

/-- The sizes, as numbers. -/
theorem v20_at :
    (after (hostOps2_4 (F := Ideal)) X (Proc.devRef .tc main_v20) : Vec Ideal S8x2 .f32)
      = (sitofp (F := Ideal) .f32 (X (Proc.devRef .tc main_arg3) : Vec Ideal S8x2 .i32) : Vec Ideal S8x2 .f32) := by
  simp only [hostOps2_4]
  after_results_simp

/-! ## The table of the twelve super classes -/

theorem lit0_word : ∀ (r : Fin 12) (q : Fin 91),
    lit0 (S128x91.rowMajor (ix2 (⟨r.val, by have := r.isLt; omega⟩ : Fin 128) q))
      = if r.val = q.val % 12 then 0x3F800000#32 else 0#32 := by
  decide +kernel

theorem hot_cst : hot (after (hostOps0 (F := Ideal)) X (Proc.devRef .tc main_cst)) := by
  intro r q
  simp only [hostOps0]
  after_results_simp
  show FloatOps.ofBits (F := Ideal) .f32 (lit0 _) = _
  rw [lit0_word r q]
  split
  · exact Ideal.ofBits_one_f32
  · exact Ideal.ofBits_zero_f32

end Cert.TopRank
end
-- ==== Proof.TopQ.lean ====
/-
  THE ROW SELECTION, RUN. The hundred trips over the scratch that begins as the row maxima leave in slot `j` the row of rank
  `j`, for every one of the hundred slots.
-/
module

public import Idealize.ShloMosaic.Lib.VecWindow
public import proofs.«01_k».proof.Proof.TopQStep
public import proofs.«01_k».proof.Proof.Gen.KernelIdeal.Frame

@[expose] public section

set_option maxRecDepth 16384

noncomputable section

namespace Cert.TopRank

open Idealize.ShloMosaic Cert.KernelIdeal Cert.KernelIdeal.Gen

section Run

variable (𝒱 : Variants) (c : Dev nD) (bd : Option 𝒱.V) (arg0 : Memref sig .tc .vmem S8x20000 .f32) (harg0 : arg0.IsWhole)
  (arg1 : Memref sig .tc .vmem S8x100 .i32) (harg1 : arg1.IsWhole) (arg2 : Memref sig .tc .vmem S8x20000 .f32) (harg2 : arg2.IsWhole)

/-- One trip's slots, from the slots and the scratch it finds. -/
theorem tripR1_eq (k : Fin k1_t1_loop.trips) (acc : IVec S8x100 32) (f : BufTy.Contents (Elt Ideal) arg2.view.ty) :
    tripR_k1_t1 (F := Ideal) 𝒱 c bd arg0 harg0 arg1 harg1 arg2 harg2 k acc f = k1_pay4 k acc (arg2.view.read (Elt Ideal) f) := by
  unfold tripR_k1_t1 trip_k1_t1
  dsimp only
  exact congrArg (k1_pay4 k acc) (View.readAt_full arg2.view f _)

/-- One trip's store into the scratch. -/
theorem read_tripL1 (k : Fin k1_t1_loop.trips) (acc : IVec S8x100 32) (f g : BufTy.Contents (Elt Ideal) arg2.view.ty)
    (L : List (View.Piece (Elt Ideal) S8x20000 .f32)) :
    arg2.view.read (Elt Ideal) (arg2.view.writes (Elt Ideal) g
      (tripL_k1_t1 (F := Ideal) 𝒱 c bd arg0 harg0 arg1 harg1 arg2 harg2 k acc f ++ L)) = k1_pay5 (arg2.view.read (Elt Ideal) f) := by
  unfold tripL_k1_t1 trip_k1_t1
  dsimp only
  refine (View.read_writes_full arg2.view g _ _ _).trans ?_
  exact congrArg k1_pay5 (View.readAt_full arg2.view f _)

theorem trips1 : k1_t1_loop.trips = 100 := by decide

/-- Before trip `k` the slots hold the rows of rank under `k`, and the scratch the maxima with those rows masked. -/
theorem st1_eq (m : Fin 8 → Fin 20000 → EReal) (hm : ∀ b r, m b r ≠ ⊥) (G : BufTy.Contents (Elt Ideal) arg2.view.ty)
    (hG : arg2.view.read (Elt Ideal) G = mvAt m 0) (k : ℕ) (hk : k ≤ 100) :
    (st_k1_t1 (F := Ideal) 𝒱 c bd arg0 harg0 arg1 harg1 arg2 harg2 G (candAt m 0) k).1 = candAt m k
    ∧ arg2.view.read (Elt Ideal) (arg2.view.writes (Elt Ideal) G
        (st_k1_t1 (F := Ideal) 𝒱 c bd arg0 harg0 arg1 harg1 arg2 harg2 G (candAt m 0) k).2) = mvAt m k := by
  induction k with
  | zero => exact ⟨rfl, hG⟩
  | succ k ih =>
    obtain ⟨h1, h2⟩ := ih (by omega)
    have hkt : k < k1_t1_loop.trips := by rw [trips1]; omega
    have hs := st_k1_t1_succ (F := Ideal) 𝒱 c bd arg0 harg0 arg1 harg1 arg2 harg2 G (candAt m 0) ⟨k, hkt⟩
    rw [hs]
    refine ⟨?_, ?_⟩
    · refine (tripR1_eq 𝒱 c bd arg0 harg0 arg1 harg1 arg2 harg2 ⟨k, hkt⟩ _ _).trans ?_
      rw [h1, h2]
      exact pay4_candAt m hm ⟨k, hkt⟩ (by show k < 100; omega)
    · refine (read_tripL1 𝒱 c bd arg0 harg0 arg1 harg1 arg2 harg2 ⟨k, hkt⟩ _ _ _ _).trans ?_
      rw [h2]
      exact pay5_mvAt m hm ⟨k, by omega⟩

end Run

/-- The scratch as the loop finds it holds the row maxima. -/
theorem scratch1 (c : Dev nD) (arg0 : Memref sig .tc .vmem S8x20000 .f32) (harg0 : arg0.IsWhole)
    (arg2 : Memref sig .tc .vmem S8x20000 .f32) (x0 : Vec Ideal S8x20000 .f32) :
    arg2.view.read (Elt Ideal) (arg2.view.writes (Elt Ideal) arg2.view.junk (kernelRun1_A.sl.HS0_1 c arg0 harg0 x0)) = x0 := by
  unfold kernelRun1_A.sl.HS0_1
  dsimp only
  refine (View.read_writes_full arg2.view _ _ _ _).trans ?_
  funext i
  obtain ⟨b, q, rfl⟩ : ∃ b q, i = ix2 b q := ⟨i 0, i 1, eq_ix2 i⟩
  pointwise [k1_pay1]
  exact congrFun ((View.readAt_full arg0.view (harg0.unread x0) _).trans (harg0.read_unread x0)) _

/-- What the row selection leaves, of the row maxima it reads. -/
theorem out1_eq (c : Dev nD) (arg0 : Memref sig .tc .vmem S8x20000 .f32) (harg0 : arg0.IsWhole)
    (arg1 : Memref sig .tc .vmem S8x100 .i32) (harg1 : arg1.IsWhole) (arg2 : Memref sig .tc .vmem S8x20000 .f32) (harg2 : arg2.IsWhole)
    (x0 : Vec Ideal S8x20000 .f32) (m : Fin 8 → Fin 20000 → EReal) (hm : ∀ b r, m b r ≠ ⊥)
    (hx : x0 = fun i => m (i 0) (i 1)) : out1_A_1 c arg0 harg0 arg1 harg1 arg2 harg2 x0 = candAt m 100 := by
  unfold out1_A_1 kernelRun1_A
  dsimp only
  refine (View.read_writes_full VO1_1 _ _ _ _).trans ?_
  have h2 : (k1_pay2 : IVec S8x100 32) = candAt m 0 := rfl
  rw [h2]
  refine (st1_eq Variants.none c none arg0 harg0 arg1 harg1 arg2 harg2 m hm _ ?_ 100 (le_refl _)).1
  rw [scratch1, hx]
  funext i
  exact (congrFun (masked_zero (m (i 0)) Fin.val) (i 1)).symm

end Cert.TopRank
end
-- ==== Proof.Regions.lean ====
/-
  THE TWO SELECTIONS' ARRAYS. Each is one call over whole arrays: its inputs are the arrays themselves, and the arrays end as the
  body left them.
-/
module

public import Idealize.ShloMosaic.Lib.Pipeline.ValueKit
public import proofs.«01_k».proof.Proof.TopQ
public import proofs.«01_k».proof.Proof.Final

@[expose] public section

set_option maxRecDepth 16384

noncomputable section

namespace Cert.TopRank

open Idealize.ShloMosaic Cert.KernelIdeal Cert.KernelIdeal.Gen
open Idealize.ShloMosaic.TcCoe

variable (V : (c : Dev nD) → (b : Ref sig .tc) → Buf (Elt Ideal) ((c : Thread nD τ).loc b))

/-! ## The row selection -/

/-- The one point of the run. -/
abbrev pt1 : Fin cfg1.N := ⟨0, by decide⟩

theorem index1_0 : ∀ t : Fin cfg1.N, win1_0.index t = ![0, 0] := (by decide +kernel : ∀ t : Fin grid1.N, _)

theorem whole1_0 (c : Dev nD) (t : Fin cfg1.N) : (iblk1 V c 0 t : Vec Ideal S8x20000 .f32) = V c main_v3 := by
  funext y
  have e : (win1_0.blk t).view.emb y = y := by
    blk_ext [index1_0]
  blk_simp [iblk1]
  exact congrArg (V c main_v3) e

/-- The candidates' array, where the input holds the row maxima. -/
theorem arr1_1 (c : Dev nD) (m : Fin 8 → Fin 20000 → EReal) (hm : ∀ b r, m b r ≠ ⊥)
    (hx : (V c main_v3 : Vec Ideal S8x20000 .f32) = fun i => m (i 0) (i 1)) :
    (dat1 V c).arrAt 1 cfg1.N = (candAt m 100 : Vec Ideal S8x100 .i32) := by
  refine (dat1 V c).arrAt_eq_of_after_last 1 pt1 (by decide +kernel) _ fun j => ?_
  rw [after1_1]
  have e := out1_eq c (ms1_0 pt1) (hs1_0 pt1) (ms1_1 pt1) (hs1_1 pt1) scM1_0 (Memref.isWhole_whole _) (iblk1 V c 0 pt1) m hm
    ((whole1_0 V c pt1).trans hx)
  blk_simp
  exact congrFun e j

/-! ## The final selection -/

/-- The one point of the run. -/
abbrev pt2 : Fin cfg2.N := ⟨0, by decide⟩

theorem index2_0 : ∀ t : Fin cfg2.N, win2_0.index t = ![0, 0] := (by decide +kernel : ∀ t : Fin grid2.N, _)

theorem whole2_0 (c : Dev nD) (t : Fin cfg2.N) : (iblk2 V c 0 t : Vec Ideal S8x9100 .f32) = V c main_v18 := by
  funext y
  have e : (win2_0.blk t).view.emb y = y := by
    blk_ext [index2_0]
  blk_simp [iblk2]
  exact congrArg (V c main_v18) e

theorem index2_1 : ∀ t : Fin cfg2.N, win2_1.index t = ![0, 0] := (by decide +kernel : ∀ t : Fin grid2.N, _)

theorem whole2_1 (c : Dev nD) (t : Fin cfg2.N) : (iblk2 V c 1 t : Vec Ideal S8x9100 .i32) = V c main_v19 := by
  funext y
  have e : (win2_1.blk t).view.emb y = y := by
    blk_ext [index2_1]
  blk_simp [iblk2]
  exact congrArg (V c main_v19) e

theorem index2_2 : ∀ t : Fin cfg2.N, win2_2.index t = ![0, 0, 0] := (by decide +kernel : ∀ t : Fin grid2.N, _)

theorem whole2_2 (c : Dev nD) (t : Fin cfg2.N) : (iblk2 V c 2 t : Vec Ideal S8x100x4 .f32) = V c main_v9 := by
  funext y
  have e : (win2_2.blk t).view.emb y = y := by
    blk_ext [index2_2]
  blk_simp [iblk2]
  exact congrArg (V c main_v9) e

theorem index2_3 : ∀ t : Fin cfg2.N, win2_3.index t = ![0, 0] := (by decide +kernel : ∀ t : Fin grid2.N, _)

theorem whole2_3 (c : Dev nD) (t : Fin cfg2.N) : (iblk2 V c 3 t : Vec Ideal S8x2 .f32) = V c main_v20 := by
  funext y
  have e : (win2_3.blk t).view.emb y = y := by
    blk_ext [index2_3]
  blk_simp [iblk2]
  exact congrArg (V c main_v20) e

section Two

variable (c : Dev nD) (v : Fin 8 → Fin 9100 → EReal) (f : Fin 8 → Fin 9100 → ℕ) (hinj : ∀ b, Function.Injective (f b))
  (hv : ∀ b r, v b r ≠ ⊥) (hf : ∀ b r, f b r < 2 ^ 30)
  (hx0 : (V c main_v18 : Vec Ideal S8x9100 .f32) = fun i => v (i 0) (i 1))
  (hx1 : (V c main_v19 : Vec Ideal S8x9100 .i32) = fun i => BitVec.ofNat 32 (f (i 0) (i 1)))

include hv hf hx0 hx1

/-- The scores' array. -/
theorem arr2_4 : (dat2 V c).arrAt 4 cfg2.N = (fun i => v (i 0) (laneAt v f hinj (i 0) (i 1)) : Vec Ideal S8x100 .f32) := by
  refine (dat2 V c).arrAt_eq_of_after_last 4 pt2 (by decide +kernel) _ fun j => ?_
  rw [after2_4]
  obtain ⟨b, k, rfl⟩ : ∃ (b : Fin 8) (k : Fin 100), j = ix2 b k := ⟨j 0, j 1, eq_ix2 j⟩
  have e := out2_4_at c (ms2_0 pt2) (hs2_0 pt2) (ms2_1 pt2) (hs2_1 pt2) (ms2_2 pt2) (hs2_2 pt2) (ms2_3 pt2) (hs2_3 pt2)
    (ms2_4 pt2) (hs2_4 pt2) (ms2_5 pt2) (hs2_5 pt2) (ms2_6 pt2) (hs2_6 pt2) scM2_0 (Memref.isWhole_whole _)
    (iblk2 V c 0 pt2) (iblk2 V c 1 pt2) (iblk2 V c 2 pt2) (iblk2 V c 3 pt2) v f hinj hv hf
    ((whole2_0 V c pt2).trans hx0) ((whole2_1 V c pt2).trans hx1) b k
  blk_simp
  exact e

/-- The labels' array. -/
theorem arr2_5 : (dat2 V c).arrAt 5 cfg2.N
    = (fun i => BitVec.ofNat 32 (f (i 0) (laneAt v f hinj (i 0) (i 1)) % 91) : Vec Ideal S8x100 .i32) := by
  refine (dat2 V c).arrAt_eq_of_after_last 5 pt2 (by decide +kernel) _ fun j => ?_
  rw [after2_5]
  obtain ⟨b, k, rfl⟩ : ∃ (b : Fin 8) (k : Fin 100), j = ix2 b k := ⟨j 0, j 1, eq_ix2 j⟩
  have e := out2_5_at c (ms2_0 pt2) (hs2_0 pt2) (ms2_1 pt2) (hs2_1 pt2) (ms2_2 pt2) (hs2_2 pt2) (ms2_3 pt2) (hs2_3 pt2)
    (ms2_4 pt2) (hs2_4 pt2) (ms2_5 pt2) (hs2_5 pt2) (ms2_6 pt2) (hs2_6 pt2) scM2_0 (Memref.isWhole_whole _)
    (iblk2 V c 0 pt2) (iblk2 V c 1 pt2) (iblk2 V c 2 pt2) (iblk2 V c 3 pt2) v f hinj hv hf
    ((whole2_0 V c pt2).trans hx0) ((whole2_1 V c pt2).trans hx1) b k
  blk_simp
  exact e

/-- A selected candidate's corners from the candidate boxes and the sizes. -/
def cornersAt (x2 : Vec Ideal S8x100x4 .f32) (x3 : Vec Ideal S8x2 .f32) (b : Fin 8) (r : Fin 100) (e : Fin 4) : EReal :=
  cornerOf (x2 (ix3 b r 0)) (x2 (ix3 b r 1)) (x2 (ix3 b r 2)) (x2 (ix3 b r 3)) (x3 (ix2 b 0)) (x3 (ix2 b 1)) e

/-- The boxes' array. -/
theorem arr2_6 : (dat2 V c).arrAt 6 cfg2.N
    = (fun i => cornersAt (V c main_v9) (V c main_v20) (i 0) (laneRow (laneAt v f hinj (i 0) (i 1))) (i 2) : Vec Ideal S8x100x4 .f32) := by
  refine (dat2 V c).arrAt_eq_of_after_last 6 pt2 (by decide +kernel) _ fun j => ?_
  rw [after2_6]
  obtain ⟨b, k, q, rfl⟩ : ∃ (b : Fin 8) (k : Fin 100) (q : Fin 4), j = ix3 b k q := ⟨j 0, j 1, j 2, eq_ix3 j⟩
  have e := out2_6_at c (ms2_0 pt2) (hs2_0 pt2) (ms2_1 pt2) (hs2_1 pt2) (ms2_2 pt2) (hs2_2 pt2) (ms2_3 pt2) (hs2_3 pt2)
    (ms2_4 pt2) (hs2_4 pt2) (ms2_5 pt2) (hs2_5 pt2) (ms2_6 pt2) (hs2_6 pt2) scM2_0 (Memref.isWhole_whole _)
    (iblk2 V c 0 pt2) (iblk2 V c 1 pt2) (iblk2 V c 2 pt2) (iblk2 V c 3 pt2) v f hinj hv hf
    ((whole2_0 V c pt2).trans hx0) ((whole2_1 V c pt2).trans hx1) b k q
  blk_simp
  refine e.trans ?_
  rw [show (iblk2 V c 2 pt2 : Vec Ideal S8x100x4 .f32) = V c main_v9 from whole2_2 V c pt2,
    show (iblk2 V c 3 pt2 : Vec Ideal S8x2 .f32) = V c main_v20 from whole2_3 V c pt2]
  rfl

end Two

end Cert.TopRank
end
-- ==== Proof.Chain.lean ====
/-
  THE KERNEL'S RESULTS. The contents carried from the arguments through the three calls and the host operations between them: the
  final arrays are the answer for the table of probabilities of the logits and super logits.
-/
module

public import proofs.«01_k».proof.Proof.Answer
public import proofs.«01_k».proof.Proof.Host
public import proofs.«01_k».proof.Proof.Regions

@[expose] public section

set_option maxRecDepth 16384

noncomputable section

namespace Cert.TopRank

open Idealize.ShloMosaic Cert.KernelIdeal Cert.KernelIdeal.Gen Idealize.ShloMosaic.StableHlo
open Idealize.ShloMosaic.TcCoe

variable (m : (ℓ : Loc nD τ sig) → Buf (Elt Ideal) ℓ) (ρ : Dev nD → PrngReg) (c : Dev nD)

/-- The table of probabilities of the logits and super logits. -/
def table : Fin 8 → Fin 20000 → Fin 91 → EReal :=
  prob (fun b r q => (m ((c : Thread nD τ).loc main_arg0) : Vec Ideal S8x20000x91 .f32) (ix3 b r q))
    (fun b r q => (m ((c : Thread nD τ).loc main_arg2) : Vec Ideal S8x20000x12 .f32) (ix3 b r q))

/-- The boxes by image, row and coordinate. -/
def boxes (b : Fin 8) (r : Fin 20000) (e : Fin 4) : EReal :=
  (m ((c : Thread nD τ).loc main_arg1) : Vec Ideal S8x20000x4 .f32) (ix3 b r e)

/-- The images' sizes as numbers. -/
def sizes (b : Fin 8) (e : Fin 2) : EReal :=
  (sitofp (F := Ideal) .f32 (m ((c : Thread nD τ).loc main_arg3) : Vec Ideal S8x2 .i32) : Vec Ideal S8x2 .f32) (ix2 b e)

theorem table_ne_bot (b : Fin 8) (r : Fin 20000) (q : Fin 91) : table m c b r q ≠ ⊥ := prob_ne_bot _ _ _ _ _

/-- The rows the second call selects. -/
def cands (b : Fin 8) (k : Fin 100) : Fin 20000 := rowAt (rowMax (table m c)) b k

theorem rank_cands (b : Fin 8) (k : Fin 100) : rank (rowMax (table m c) b) Fin.val (cands m c b k) = k.val := rank_rowAt _ b k

/-- A row of the joined tables is the row of the image's table. -/
theorem cells_at (b : Fin 8) (r : Fin 20000) :
    cells (W1 m ρ c (Proc.devRef .tc main_v0)) (W1 m ρ c (Proc.devRef .tc main_v1))
      ⟨b.val * 20000 + r.val, by have := b.isLt; have := r.isLt; omega⟩ = table m c b r := by
  unfold cells table
  have e0 : ∀ q : Fin 91, (W1 m ρ c (Proc.devRef .tc main_v0) : Vec Ideal S160000x91 .f32)
      (ix2 ⟨b.val * 20000 + r.val, by have := b.isLt; have := r.isLt; omega⟩ q)
      = (m ((c : Thread nD τ).loc main_arg0) : Vec Ideal S8x20000x91 .f32) (ix3 b r q) := fun q => v0_at (W0 m ρ c) b r q
  have e1 : ∀ q : Fin 12, (W1 m ρ c (Proc.devRef .tc main_v1) : Vec Ideal S160000x12 .f32)
      (ix2 ⟨b.val * 20000 + r.val, by have := b.isLt; have := r.isLt; omega⟩ q)
      = (m ((c : Thread nD τ).loc main_arg2) : Vec Ideal S8x20000x12 .f32) (ix3 b r q) := fun q => v1_at (W0 m ρ c) b r q
  simp only [e0, e1]
  rfl

theorem W2_v2_0 : (W2 m ρ c (Proc.devRef .tc main_v2_0) : Vec Ideal S160000x91 .f32)
    = probArr (W1 m ρ c (Proc.devRef .tc main_v0)) (W1 m ρ c (Proc.devRef .tc main_v1)) :=
  (W2_arr m ρ c 3).trans (arr0_3 (V1 m ρ) c (hot_cst (W0 m ρ c)))

theorem W2_v2_1 : (W2 m ρ c (Proc.devRef .tc main_v2_1) : Vec Ideal S160000x1 .f32)
    = maxArr (W1 m ρ c (Proc.devRef .tc main_v0)) (W1 m ρ c (Proc.devRef .tc main_v1)) :=
  (W2_arr m ρ c 4).trans (arr0_4 (V1 m ρ) c (hot_cst (W0 m ρ c)))

theorem W3_v3 : (W3 m ρ c (Proc.devRef .tc main_v3) : Vec Ideal S8x20000 .f32) = fun i => rowMax (table m c) (i 0) (i 1) := by
  funext j
  obtain ⟨b, r, rfl⟩ : ∃ (b : Fin 8) (r : Fin 20000), j = ix2 b r := ⟨j 0, j 1, eq_ix2 j⟩
  refine (v3_at (W2 m ρ c) b r).trans ?_
  rw [W2_v2_1]
  show Finset.univ.sup (cells _ _ ⟨b.val * 20000 + r.val, _⟩) = _
  rw [cells_at]
  rfl

theorem W4_v4 : (W4 m ρ c (Proc.devRef .tc main_v4) : Vec Ideal S8x100 .i32) = candAt (rowMax (table m c)) 100 :=
  (W4_arr m ρ c 1).trans (arr1_1 (V3 m ρ) c _ (rowMax_ne_bot _ (table_ne_bot m c)) (W3_v3 m ρ c))

theorem W4_v4_at (b : Fin 8) (k : Fin 100) :
    (W4 m ρ c (Proc.devRef .tc main_v4) : Vec Ideal S8x100 .i32) (ix2 b k) = BitVec.ofNat 32 (cands m c b k).val := by
  rw [W4_v4]
  exact if_pos k.isLt

theorem W5_v5 (b : Fin 8) (r : Fin 20000) (q : Fin 91) :
    (W5 m ρ c (Proc.devRef .tc main_v5) : Vec Ideal S8x20000x91 .f32) (ix3 b r q) = table m c b r q := by
  refine (v5_at (W4 m ρ c) b r q).trans ?_
  rw [W4_of m ρ c main_v2_0 (by decide), W3_of m ρ c main_v2_0 (by decide), W2_v2_0]
  exact congrFun (cells_at m ρ c b r) q

theorem W6_v7 (b : Fin 8) (k : Fin 100) (q : Fin 91) :
    (W6 m ρ c (Proc.devRef .tc main_v7) : Vec Ideal S8x100x91 .f32) (ix3 b k q) = table m c b (cands m c b k) q := by
  have e := v7_eq (W5 m ρ c) (cands m c) fun b k => (v6_at (W4 m ρ c) b k).trans (W4_v4_at m ρ c b k)
  exact (congrFun e (ix3 b k q)).trans (W5_v5 m ρ c b _ q)

theorem W6_v4 : W6 m ρ c (Proc.devRef .tc main_v4) = W4 m ρ c (Proc.devRef .tc main_v4) :=
  (W6_of m ρ c main_v4 (by decide)).trans (W5_of m ρ c main_v4 (by decide))

theorem W8_v9 (b : Fin 8) (k : Fin 100) (q : Fin 4) :
    (W8 m ρ c (Proc.devRef .tc main_v9) : Vec Ideal S8x100x4 .f32) (ix3 b k q) = boxes m c b (cands m c b k) q := by
  have e := v9_eq (W7 m ρ c) (cands m c) fun b k => (v8_at (W6 m ρ c) b k).trans
    ((congrFun (W6_v4 m ρ c) (ix2 b k)).trans (W4_v4_at m ρ c b k))
  refine (congrFun e (ix3 b k q)).trans ?_
  exact congrFun (W7_args m ρ c main_arg1 (by decide)) _

theorem W9_v18 : (W9 m ρ c (Proc.devRef .tc main_v18) : Vec Ideal S8x9100 .f32)
    = fun i => laneVal (table m c) (cands m c) (i 0) (i 1) := by
  funext j
  obtain ⟨b, l, rfl⟩ : ∃ (b : Fin 8) (l : Fin 9100), j = ix2 b l := ⟨j 0, j 1, eq_ix2 j⟩
  refine (v18_at (W8 m ρ c) b l).trans ?_
  rw [W8_of m ρ c main_v7 (by decide), W7_of m ρ c main_v7 (by decide)]
  exact W6_v7 m ρ c b _ _

/-- A lane's position in the flattened table, as a number. -/
def laneNum (b : Fin 8) (l : Fin 9100) : ℕ := (lanePos (cands m c) b l).val

theorem W9_v19 : (W9 m ρ c (Proc.devRef .tc main_v19) : Vec Ideal S8x9100 .i32) = fun i => BitVec.ofNat 32 (laneNum m c (i 0) (i 1)) := by
  funext j
  obtain ⟨b, l, rfl⟩ : ∃ (b : Fin 8) (l : Fin 9100), j = ix2 b l := ⟨j 0, j 1, eq_ix2 j⟩
  refine (v19_at (W8 m ρ c) b l).trans ?_
  rw [W8_of m ρ c main_v4 (by decide), W7_of m ρ c main_v4 (by decide), W6_v4, W4_v4_at]
  show BitVec.ofNat 32 _ * BitVec.ofNat 32 91 + BitVec.ofNat 32 _ = _
  rw [← BitVec.ofNat_mul, ← BitVec.ofNat_add]
  rfl

theorem W9_v9 (b : Fin 8) (k : Fin 100) (q : Fin 4) :
    (W9 m ρ c (Proc.devRef .tc main_v9) : Vec Ideal S8x100x4 .f32) (ix3 b k q) = boxes m c b (cands m c b k) q := by
  rw [W9_of m ρ c main_v9 (by decide)]
  exact W8_v9 m ρ c b k q

theorem W9_v20 (b : Fin 8) (e : Fin 2) :
    (W9 m ρ c (Proc.devRef .tc main_v20) : Vec Ideal S8x2 .f32) (ix2 b e) = sizes m c b e := by
  refine (congrFun (v20_at (W8 m ρ c)) (ix2 b e)).trans ?_
  rw [W8_args m ρ c main_arg3 (by decide)]
  rfl

/-! ## The results -/

theorem laneNum_inj (b : Fin 8) : Function.Injective (laneNum m c b) := fun _ _ h =>
  lanePos_inj (table m c) (cands m c) (rank_cands m c) b (Fin.ext h)

theorem laneVal_ne_bot (b : Fin 8) (l : Fin 9100) : laneVal (table m c) (cands m c) b l ≠ ⊥ := table_ne_bot m c _ _ _

theorem laneNum_lt (b : Fin 8) (l : Fin 9100) : laneNum m c b l < 2 ^ 30 := lanePos_lt (cands m c) b l

/-- The lane the third call selects at trip `j`. -/
def lane (b : Fin 8) (j : Fin 100) : Fin 9100 := laneAt (laneVal (table m c) (cands m c)) (laneNum m c) (laneNum_inj m c) b j

/-- It holds the `j`-th best entry of the whole table. -/
theorem lanePos_lane (b : Fin 8) (j : Fin 100) : lanePos (cands m c) b (lane m c b j) = posAt (table m c) b j :=
  lanePos_of_rank (table m c) (cands m c) (rank_cands m c) b _ j
    (rank_laneAt (laneVal (table m c) (cands m c)) (laneNum m c) (laneNum_inj m c) b j)

theorem W10_scores : (W10 m ρ c (Proc.devRef .tc main_v21_0) : Vec Ideal S8x100 .f32)
    = fun i => scoreAt (table m c) (i 0) (i 1) := by
  refine ((W10_arr m ρ c 4).trans (arr2_4 (V9 m ρ) c _ _ (laneNum_inj m c) (laneVal_ne_bot m c) (laneNum_lt m c)
    (W9_v18 m ρ c) (W9_v19 m ρ c))).trans ?_
  funext i
  obtain ⟨b, k, rfl⟩ : ∃ (b : Fin 8) (k : Fin 100), i = ix2 b k := ⟨i 0, i 1, eq_ix2 i⟩
  show laneVal (table m c) (cands m c) b (lane m c b k) = scoreAt (table m c) b k
  unfold scoreAt
  rw [← lanePos_lane, flatAt_lanePos]

theorem W10_labels : (W10 m ρ c (Proc.devRef .tc main_v21_1) : Vec Ideal S8x100 .i32)
    = fun i => labelAt (table m c) (i 0) (i 1) := by
  refine ((W10_arr m ρ c 5).trans (arr2_5 (V9 m ρ) c _ _ (laneNum_inj m c) (laneVal_ne_bot m c) (laneNum_lt m c)
    (W9_v18 m ρ c) (W9_v19 m ρ c))).trans ?_
  funext i
  obtain ⟨b, k, rfl⟩ : ∃ (b : Fin 8) (k : Fin 100), i = ix2 b k := ⟨i 0, i 1, eq_ix2 i⟩
  show BitVec.ofNat 32 (laneNum m c b (lane m c b k) % 91) = labelAt (table m c) b k
  unfold labelAt
  rw [← lanePos_lane]
  rfl

/-- Corners from boxes and sizes known by coordinate. -/
theorem cornersAt_eq (x2 : Vec Ideal S8x100x4 .f32) (x3 : Vec Ideal S8x2 .f32) (b : Fin 8) (r : Fin 100) {B : Fin 4 → EReal}
    {T : Fin 2 → EReal} (h2 : ∀ q, x2 (ix3 b r q) = B q) (h3 : ∀ q, x3 (ix2 b q) = T q) (e : Fin 4) :
    cornersAt x2 x3 b r e = cornerOf (B 0) (B 1) (B 2) (B 3) (T 0) (T 1) e := by
  unfold cornersAt
  rw [h2, h2, h2, h2, h3, h3]

theorem W10_boxes : (W10 m ρ c (Proc.devRef .tc main_v21_2) : Vec Ideal S8x100x4 .f32)
    = fun i => boxAt (table m c) (boxes m c) (sizes m c) (i 0) (i 1) (i 2) := by
  refine ((W10_arr m ρ c 6).trans (arr2_6 (V9 m ρ) c _ _ (laneNum_inj m c) (laneVal_ne_bot m c) (laneNum_lt m c)
    (W9_v18 m ρ c) (W9_v19 m ρ c))).trans ?_
  funext i
  obtain ⟨b, k, e, rfl⟩ : ∃ (b : Fin 8) (k : Fin 100) (e : Fin 4), i = ix3 b k e := ⟨i 0, i 1, i 2, eq_ix3 i⟩
  show cornersAt (W9 m ρ c (Proc.devRef .tc main_v9)) (W9 m ρ c (Proc.devRef .tc main_v20)) b (laneRow (lane m c b k)) e
    = boxAt (table m c) (boxes m c) (sizes m c) b k e
  rw [cornersAt_eq _ _ b (laneRow (lane m c b k)) (W9_v9 m ρ c b _) (W9_v20 m ρ c b)]
  unfold boxAt
  rw [← lanePos_lane, rowOf_lanePos]
  rfl

end Cert.TopRank
end
-- ==== Proof.KernelRun.lean ====
/-
  THE KERNEL'S LAUNCH. Every fair run of the kernel ends with the three result arrays holding the answer and the arguments as launched.
-/
module

public import proofs.«01_k».proof.Proof.Chain

@[expose] public section

noncomputable section

namespace Cert.TopRank

open Idealize.ShloMosaic Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair run of the kernel from a launched memory ends with the scores, labels and boxes of the answer in its three result
    arrays, and its four arguments unchanged. -/
theorem kernel_run : θ_run defs (onTc (τ := τ) (main (F := Ideal))) ⟨m, fun _ => 0, ρ⟩ (fun r => ∀ c : Dev nD,
      r.2.mem ((c.tc : Thread nD τ).loc main_v21_0) = (fun i => scoreAt (table m c) (i 0) (i 1) : Vec Ideal S8x100 .f32)
      ∧ r.2.mem ((c.tc : Thread nD τ).loc main_v21_1) = (fun i => labelAt (table m c) (i 0) (i 1) : Vec Ideal S8x100 .i32)
      ∧ r.2.mem ((c.tc : Thread nD τ).loc main_v21_2)
        = (fun i => boxAt (table m c) (boxes m c) (sizes m c) (i 0) (i 1) (i 2) : Vec Ideal S8x100x4 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨(h c _ (mem_uc main_v21_0 (by decide))).trans (W10_scores m ρ c),
       (h c _ (mem_uc main_v21_1 (by decide))).trans (W10_labels m ρ c),
       (h c _ (mem_uc main_v21_2 (by decide))).trans (W10_boxes m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c)⟩)

end Cert.TopRank
end
-- ==== Proof.RefTop.lean ====
/-
  THE REFERENCE'S SELECTION. The hundred greatest entries of every row, as the host's selection gives them: the entry at place `k` is at the
  position of rank `k`, and the index word there is that position.
-/
module

public import Idealize.ShloMosaic.PureOps.Ideal
public import proofs.«01_k».proof.Proof.RowOps
public import proofs.«01_k».proof.Proof.Indexing

@[expose] public section

set_option maxRecDepth 16384

noncomputable section

namespace Cert.TopRank

open Idealize.ShloMosaic

variable {n : ℕ}

/-- The values and the index words of the host's selection at one place come from one position, and that position has the place's
    rank. -/
theorem topK_at (x : Vec Ideal ⟨2, ![8, n]⟩ .f32) (h : (⟨2, ![8, n]⟩ : Shape).Slices (fun _ => 0) ⟨2, ![8, 100]⟩) (hn : 100 ≤ n)
    (b : Fin 8) (k : Fin 100) :
    ∃ pos : Fin n, rank (fun q => (x (ix2 b q) : EReal)) Fin.val pos = k.val
      ∧ (Host.topK (s := ⟨2, ![8, n]⟩) ⟨2, ![8, 100]⟩ 1 (FloatOps.cmpfTotal (F := Ideal) (φ := .f32) .gt) x h).1 (ix2 b k) = x (ix2 b pos)
      ∧ (Host.topK (s := ⟨2, ![8, n]⟩) ⟨2, ![8, 100]⟩ 1 (FloatOps.cmpfTotal (F := Ideal) (φ := .f32) .gt) x h).2 (ix2 b k)
        = BitVec.ofNat 32 pos.val := by
  have ea : ∀ (c : Fin n) (q : Fin n), (ix2 b c : (⟨2, ![8, n]⟩ : Shape).Idx).along 1 q = ix2 b q := by
    intro c q
    funext a
    match a with
    | ⟨0, _⟩ => rfl
    | ⟨1, _⟩ => rfl
  let kk : Fin n := ⟨k.val, by have := k.isLt; omega⟩
  let R : Fin n → Fin n → Bool := fun q q' =>
    FloatOps.cmpfTotal (F := Ideal) (φ := .f32) .gt (x ((ix2 b kk : (⟨2, ![8, n]⟩ : Shape).Idx).along 1 q))
      (x ((ix2 b kk : (⟨2, ![8, n]⟩ : Shape).Idx).along 1 q')) == 1#1
  have hR : ∀ q q', R q q' = decide ((x (ix2 b q') : EReal) < x (ix2 b q)) := by
    intro q q'
    show (FloatOps.cmpfTotal (F := Ideal) (φ := .f32) .gt (x _) (x _) == 1#1) = _
    rw [ea, ea]
    show (BitVec.ofBool (decide ((x (ix2 b q') : EReal) < x (ix2 b q))) == 1#1) = _
    cases decide ((x (ix2 b q') : EReal) < x (ix2 b q)) <;> rfl
  have e1 : ∀ J : (⟨2, ![8, n]⟩ : Shape).Idx, J = ix2 b kk →
      x (J.along 1 (sortedFrom (fun q q' => FloatOps.cmpfTotal (F := Ideal) (φ := .f32) .gt (x (J.along 1 q)) (x (J.along 1 q')) == 1#1) (J 1)))
        = x (ix2 b (sortedFrom R kk)) := by
    rintro J rfl
    exact congrArg x (ea _ _)
  have e2 : ∀ J : (⟨2, ![8, n]⟩ : Shape).Idx, J = ix2 b kk →
      BitVec.ofNat 32 ((J.along 1
          (sortedFrom (fun q q' => FloatOps.cmpfTotal (F := Ideal) (φ := .f32) .gt (x (J.along 1 q)) (x (J.along 1 q')) == 1#1) (J 1))) 1).val
        = BitVec.ofNat 32 (sortedFrom R kk).val := by
    rintro J rfl
    exact congrArg (fun i : (⟨2, ![8, n]⟩ : Shape).Idx => BitVec.ofNat 32 (i 1).val) (ea _ _)
  have eJ : ∀ J : (⟨2, ![8, n]⟩ : Shape).Idx, (J 0).val = 0 + b.val → (J 1).val = 0 + k.val → J = ix2 b kk := by
    intro J h0 h1
    rw [eq_ix2 J]
    congr 1 <;> refine Fin.ext ?_
    · exact h0.trans (Nat.zero_add _)
    · exact h1.trans (Nat.zero_add _)
  refine ⟨sortedFrom R kk, rank_sortedFrom (fun q => (x (ix2 b q) : EReal)) R hR kk, ?_, ?_⟩
  · exact e1 _ (eJ _ rfl rfl)
  · exact e2 _ (eJ _ rfl rfl)

end Cert.TopRank
end
-- ==== Proof.RefTable.lean ====
/-
  THE REFERENCE'S PROBABILITIES. The reference bars the unused classes, takes the logistic as a quotient, multiplies every class by its
  superclass, and flattens: the flattened table of probabilities. The hundred greatest of it and the words of their rows and classes follow.
-/
module

public import Idealize.ShloMosaic.Lib.Pointwise
public import Idealize.ShloMosaic.Lib.IdealHost
public import Idealize.ShloMosaic.Lib.Routing.Words
public import proofs.«01_k».proof.Proof.Spec
public import proofs.«01_k».proof.Proof.Answer
public import proofs.«01_k».proof.Proof.RefTop
public import proofs.«01_k».proof.Proof.Gen.ReferenceIdeal.Run

@[expose] public section

set_option maxRecDepth 16384

noncomputable section

namespace Cert.TopRank

open Idealize.ShloMosaic Cert.ReferenceIdeal Cert.ReferenceIdeal.Gen Cert.ReferenceIdeal.Value

/-- The logits, the last class barred. -/
def refLogits (x : FVec Ideal S8x20000x91 .f32) : FVec Ideal S8x20000x91 .f32 :=
  Host.scatter scatter_S8x20000x91_S1x1_S8x20000x1_01_2_2_1 (fun _ b => b) x
    (broadcastInDim S1x1 ![0] bcast_S1_S1x1_0 (select (constantI S1 1 0#1)
      (addi (constantI S1 32 90#32) (broadcastInDim S1 ![] bcast_S_S1 (constantI S_ 32 91#32))) (constantI S1 32 90#32)))
    (broadcastInDim S8x20000x1 ![] bcast_S_S8x20000x1 (constant (F := Ideal) S_ .f32 0xD1BA43B7#32))

/-- The super logits, the last superclass barred. -/
def refSupers (y : FVec Ideal S8x20000x12 .f32) : FVec Ideal S8x20000x12 .f32 :=
  Host.scatter scatter_S8x20000x12_S1x1_S8x20000x1_01_2_2_1 (fun _ b => b) y
    (broadcastInDim S1x1 ![0] bcast_S1_S1x1_0 (select (constantI S1 1 0#1)
      (addi (constantI S1 32 11#32) (broadcastInDim S1 ![] bcast_S_S1 (constantI S_ 32 12#32))) (constantI S1 32 11#32)))
    (broadcastInDim S8x20000x1 ![] bcast_S_S8x20000x1 (constant (F := Ideal) S_ .f32 0xD1BA43B7#32))

/-- The superclass of every class, as a column of words. -/
def refClasses : IVec S91x1 32 :=
  broadcastInDim S91x1 ![0] bcast_S91_S91x1_0 (select (constantI S91 1 0#1)
    (addi (fun i => lit0 (S91.rowMajor i)) (broadcastInDim S91 ![] bcast_S_S91 (constantI S_ 32 12#32))) (fun i => lit0 (S91.rowMajor i)))

/-- The logistic of the barred logits. -/
def refProbs (x : FVec Ideal S8x20000x91 .f32) : FVec Ideal S8x20000x91 .f32 :=
  Host.divf (broadcastInDim S8x20000x91 ![] bcast_S_S8x20000x91 (constant (F := Ideal) S_ .f32 0x3F800000#32))
    (addf (broadcastInDim S8x20000x91 ![] bcast_S_S8x20000x91 (constant (F := Ideal) S_ .f32 0x3F800000#32)) (Host.exp (Host.negf (refLogits x))))

/-- The logistic of the barred super logits. -/
def refSuperProbs (y : FVec Ideal S8x20000x12 .f32) : FVec Ideal S8x20000x12 .f32 :=
  Host.divf (broadcastInDim S8x20000x12 ![] bcast_S_S8x20000x12 (constant (F := Ideal) S_ .f32 0x3F800000#32))
    (addf (broadcastInDim S8x20000x12 ![] bcast_S_S8x20000x12 (constant (F := Ideal) S_ .f32 0x3F800000#32)) (Host.exp (Host.negf (refSupers y))))

/-- The products. -/
def refTable (x : FVec Ideal S8x20000x91 .f32) (y : FVec Ideal S8x20000x12 .f32) : FVec Ideal S8x20000x91 .f32 :=
  mulf (refProbs x) (Host.gather gather_S8x20000x12_S91x1_S8x20000x91_01_2_n_n_2_1_8200001 (refSuperProbs y) refClasses)

/-- The products, every image's in one row. -/
def refFlat (x : FVec Ideal S8x20000x91 .f32) (y : FVec Ideal S8x20000x12 .f32) : FVec Ideal S8x1820000 .f32 :=
  shapeCast _ (refTable x y) shapeCasts_S8x20000x91_S8x1820000

/-- The hundred greatest values and their positions. -/
def refTop (x : FVec Ideal S8x20000x91 .f32) (y : FVec Ideal S8x20000x12 .f32) : FVec Ideal S8x100 .f32 × IVec S8x100 32 :=
  Host.topK S8x100 1 (FloatOps.cmpfTotal (F := Ideal) (φ := .f32) .gt) (refFlat x y) sliceFits_S8x1820000_S8x100

/-! ## Their values -/

theorem quotient_logistic (x : EReal) :
    Ideal.div (Ideal.ofBits .f32 0x3F800000#32) (Ideal.ofBits .f32 0x3F800000#32 + Ideal.exp (-x)) = Ideal.logistic x := by
  rw [Ideal.ofBits_one_f32]; rfl

/-- One over one plus the exponential of the negated array is its logistic at every index. -/
theorem quotient_at {s : Shape} (o X : FVec Ideal s .f32) (ho : ∀ i, o i = Ideal.ofBits .f32 0x3F800000#32) (i : s.Idx) :
    Host.divf o (addf o (Host.exp (Host.negf X))) i = Ideal.logistic (X i) := by
  refine Eq.trans ?_ (quotient_logistic (X i))
  show Ideal.div (o i) (o i + Ideal.exp (-(X i))) = _
  rw [ho]

/-- The column of a class's superclass. -/
theorem supers_gather (z : FVec Ideal S8x20000x12 .f32) (i : IVec S91x1 32) (b : Fin 8) (r : Fin 20000) (q : Fin 91) (c : Fin 12)
    (hi : i (ix2 q 0) = BitVec.ofNat 32 c.val) :
    Host.gather gather_S8x20000x12_S91x1_S8x20000x91_01_2_n_n_2_1_8200001 z i (ix3 b r q) = z (ix3 b r c) :=
  gather_cols _ z i b r q c hi

theorem refLogits_at (x : FVec Ideal S8x20000x91 .f32) (b : Fin 8) (r : Fin 20000) (q : Fin 91) :
    refLogits x (ix3 b r q) = barred q.val 90 (x (ix3 b r q)) :=
  scatter_col _ x _ (Ideal.ofBits .f32 0xD1BA43B7#32) _ (fun _ => rfl) 90 (by decide) (by decide) (fun _ => rfl) b r q

theorem refSupers_at (y : FVec Ideal S8x20000x12 .f32) (b : Fin 8) (r : Fin 20000) (q : Fin 12) :
    refSupers y (ix3 b r q) = barred q.val 11 (y (ix3 b r q)) :=
  scatter_col _ y _ (Ideal.ofBits .f32 0xD1BA43B7#32) _ (fun _ => rfl) 11 (by decide) (by decide) (fun _ => rfl) b r q

theorem refProbs_at (x : FVec Ideal S8x20000x91 .f32) (b : Fin 8) (r : Fin 20000) (q : Fin 91) :
    refProbs x (ix3 b r q) = Ideal.logistic (barred q.val 90 (x (ix3 b r q))) := by
  unfold refProbs
  refine (quotient_at _ _ (fun _ => rfl) _).trans ?_
  rw [refLogits_at]

theorem refSuperProbs_at (y : FVec Ideal S8x20000x12 .f32) (b : Fin 8) (r : Fin 20000) (q : Fin 12) :
    refSuperProbs y (ix3 b r q) = Ideal.logistic (barred q.val 11 (y (ix3 b r q))) := by
  unfold refSuperProbs
  refine (quotient_at _ _ (fun _ => rfl) _).trans ?_
  rw [refSupers_at]

theorem lit0_mod : ∀ q : Fin 91, lit0 (S91.rowMajor (ix1 q)) = BitVec.ofNat 32 (q.val % 12) := by decide +kernel

theorem refClasses_at (q : Fin 91) : refClasses (ix2 q 0) = BitVec.ofNat 32 (q.val % 12) := by
  refine Eq.trans ?_ (lit0_mod q)
  unfold refClasses
  pointwise []

theorem refTable_at (x : FVec Ideal S8x20000x91 .f32) (y : FVec Ideal S8x20000x12 .f32) (b : Fin 8) (r : Fin 20000) (q : Fin 91) :
    refTable x y (ix3 b r q) = cell (fun q => x (ix3 b r q)) (fun q => y (ix3 b r q)) q := by
  unfold refTable cell
  rw [mulf_apply, supers_gather _ _ b r q ⟨q.val % 12, Nat.mod_lt _ (by decide)⟩ (refClasses_at q), refProbs_at, refSuperProbs_at]
  rfl

/-- The table of probabilities by image, row and class. -/
def refSpec (x : FVec Ideal S8x20000x91 .f32) (y : FVec Ideal S8x20000x12 .f32) : Fin 8 → Fin 20000 → Fin 91 → EReal :=
  prob (fun b r q => x (ix3 b r q)) (fun b r q => y (ix3 b r q))

theorem refFlat_at (x : FVec Ideal S8x20000x91 .f32) (y : FVec Ideal S8x20000x12 .f32) (b : Fin 8) (k : Fin 1820000) :
    refFlat x y (ix2 b k) = flatAt (refSpec x y) b k := by
  have e : refFlat x y (ix2 b k) = refTable x y (ix3 b (rowOf k) (clsOf k)) := by
    unfold refFlat
    pointwise []
    rfl
  rw [e, refTable_at]
  rfl

/-! ## The selection -/

/-- At place `k` the value and the position are those of rank `k`. -/
theorem refTop_at (x : FVec Ideal S8x20000x91 .f32) (y : FVec Ideal S8x20000x12 .f32) (b : Fin 8) (k : Fin 100) :
    (refTop x y).1 (ix2 b k) = scoreAt (refSpec x y) b k
      ∧ (refTop x y).2 (ix2 b k) = BitVec.ofNat 32 (posAt (refSpec x y) b k).val := by
  obtain ⟨pos, hr, h1, h2⟩ := topK_at (refFlat x y) sliceFits_S8x1820000_S8x100 (by decide) b k
  have ef : (fun q => (refFlat x y (ix2 b q) : EReal)) = flatAt (refSpec x y) b := funext fun q => refFlat_at x y b q
  rw [ef] at hr
  have hp : pos = posAt (refSpec x y) b k := rank_inj Fin.val_injective (hr.trans (rank_posAt (refSpec x y) b k).symm)
  rw [hp] at h1 h2
  exact ⟨h1.trans (refFlat_at x y b _), h2⟩

end Cert.TopRank
end
-- ==== Proof.RefBoxes.lean ====
/-
  THE REFERENCE'S LABELS AND BOXES. A flat position divided by the number of classes leaves its class and gives its row; the row's box,
  turned from centre and sides to corners, is read by that number and scaled.
-/
module

public import proofs.«01_k».proof.Proof.RefTable

@[expose] public section

set_option maxRecDepth 16384

noncomputable section

namespace Cert.TopRank

open Idealize.ShloMosaic Cert.ReferenceIdeal Cert.ReferenceIdeal.Gen Cert.ReferenceIdeal.Value

/-! ## The number's two parts -/

/-- The number of classes, as a scalar. -/
def refDivisor : IVec S_ 32 := id (constantI S_ 32 91#32)

/-- The classes of the positions. -/
def refLabels (k : IVec S8x100 32) : IVec S8x100 32 := Routing.pyRem bcast_S_S8x100 k refDivisor

/-- The rows of the positions. -/
def refRows (k : IVec S8x100 32) : IVec S8x100 32 := Routing.pyDiv bcast_S_S8x100 k refDivisor

theorem refLabels_at (k : IVec S8x100 32) (i : S8x100.Idx) {a : ℕ} (h : k i = BitVec.ofNat 32 a) (ha : a < 2 ^ 31) :
    refLabels k i = BitVec.ofNat 32 (a % 91) := Routing.pyRem_ap _ k refDivisor i h rfl ha (by decide) (by decide)

theorem refRows_at (k : IVec S8x100 32) (i : S8x100.Idx) {a : ℕ} (h : k i = BitVec.ofNat 32 a) (ha : a < 2 ^ 31) :
    refRows k i = BitVec.ofNat 32 (a / 91) := Routing.pyDiv_ap _ k refDivisor i h rfl ha (by decide) (by decide)

/-! ## The corners -/

/-- One coordinate of every box. -/
def refCoord (o : ℕ) (x : FVec Ideal S8x20000x4 .f32) (h : S8x20000x4.Slices ![0, 0, o] S8x20000x1) : FVec Ideal S8x20000 .f32 :=
  shapeCast _ (extractStridedSlice S8x20000x1 ![0, 0, o] x h) shapeCasts_S8x20000x1_S8x20000

/-- Half of a coordinate. -/
def refHalf (z : FVec Ideal S8x20000 .f32) : FVec Ideal S8x20000 .f32 :=
  mulf (broadcastInDim S8x20000 ![] bcast_S_S8x20000 (constant (F := Ideal) S_ .f32 0x3F000000#32)) z

/-- A corner coordinate as a column. -/
def refColumn (z : FVec Ideal S8x20000 .f32) : FVec Ideal S8x20000x1 .f32 :=
  broadcastInDim S8x20000x1 ![0, 1] bcast_S8x20000_S8x20000x1_0_1 z

/-- The corners of every box. -/
def refCorners (x : FVec Ideal S8x20000x4 .f32) : FVec Ideal S8x20000x4 .f32 :=
  fn_main_v57 (F := Ideal)
    (refColumn (subf (refCoord 0 x slices_S8x20000x4_S8x20000x1_0_0_0) (refHalf (refCoord 2 x slices_S8x20000x4_S8x20000x1_0_0_2))))
    (refColumn (subf (refCoord 1 x slices_S8x20000x4_S8x20000x1_0_0_1) (refHalf (refCoord 3 x slices_S8x20000x4_S8x20000x1_0_0_3))))
    (refColumn (addf (refCoord 0 x slices_S8x20000x4_S8x20000x1_0_0_0) (refHalf (refCoord 2 x slices_S8x20000x4_S8x20000x1_0_0_2))))
    (refColumn (addf (refCoord 1 x slices_S8x20000x4_S8x20000x1_0_0_1) (refHalf (refCoord 3 x slices_S8x20000x4_S8x20000x1_0_0_3))))

theorem refCoord_at (o : Fin 4) (x : FVec Ideal S8x20000x4 .f32) (h : S8x20000x4.Slices ![0, 0, o.val] S8x20000x1) (b : Fin 8)
    (r : Fin 20000) : refCoord o.val x h (ix2 b r) = x (ix3 b r o) := by
  unfold refCoord
  pointwise []

theorem refHalf_at (z : FVec Ideal S8x20000 .f32) (b : Fin 8) (r : Fin 20000) :
    refHalf z (ix2 b r) = Ideal.ofBits .f32 0x3F000000#32 * z (ix2 b r) := rfl

/-- The four columns side by side. -/
theorem fn57_at (u0 u1 u2 u3 : FVec Ideal S8x20000x1 .f32) (b : Fin 8) (r : Fin 20000) (e : Fin 4) :
    (fn_main_v57 (F := Ideal) u0 u1 u2 u3 : FVec Ideal S8x20000x4 .f32) (ix3 b r e)
      = (![u0 (ix3 b r 0), u1 (ix3 b r 0), u2 (ix3 b r 0), u3 (ix3 b r 0)] : Fin 4 → EReal) e := by
  unfold fn_main_v57
  fin_cases e <;> pointwise []

/-! ## The sizes -/

/-- One size of every image. -/
def refSize (o : ℕ) (z : FVec Ideal S8x2 .f32) (h : S8x2.Slices ![0, o] S8x1) : FVec Ideal S8x1 .f32 :=
  broadcastInDim S8x1 ![0] bcast_S8_S8x1_0 (shapeCast _ (extractStridedSlice S8x1 ![0, o] z h) shapeCasts_S8x1_S8)

/-- The four scales of every image, spread over the places. -/
def refScale (z : FVec Ideal S8x2 .f32) : FVec Ideal S8x100x4 .f32 :=
  broadcastInDim S8x100x4 ![0, 1, 2] bcast_S8x1x4_S8x100x4_0_1_2 (broadcastInDim S8x1x4 ![0, 2] bcast_S8x4_S8x1x4_0_2
    (fn_main_v70 (F := Ideal) (refSize 1 z slices_S8x2_S8x1_0_1) (refSize 0 z slices_S8x2_S8x1_0_0)
      (refSize 1 z slices_S8x2_S8x1_0_1) (refSize 0 z slices_S8x2_S8x1_0_0)))

theorem fn70_at (u0 u1 u2 u3 : FVec Ideal S8x1 .f32) (b : Fin 8) (e : Fin 4) :
    (fn_main_v70 (F := Ideal) u0 u1 u2 u3 : FVec Ideal S8x4 .f32) (ix2 b e)
      = (![u0 (ix2 b 0), u1 (ix2 b 0), u2 (ix2 b 0), u3 (ix2 b 0)] : Fin 4 → EReal) e := by
  unfold fn_main_v70
  fin_cases e <;> pointwise []

theorem refSize_at (o : Fin 2) (z : FVec Ideal S8x2 .f32) (h : S8x2.Slices ![0, o.val] S8x1) (b : Fin 8) :
    refSize o.val z h (ix2 b 0) = z (ix2 b o) := by
  unfold refSize
  pointwise []

/-! ## The rows read by number -/

/-- The row numbers, one for every coordinate, a negative one counted from the end. -/
def refWrapped (k : IVec S8x100 32) : IVec S8x100x4x1 32 :=
  shapeCast _ (select (cmpi .slt (broadcastInDim S8x100x4 ![0, 1, 2] bcast_S8x100x1_S8x100x4_0_1_2 (broadcastInDim S8x100x1 ![0, 1] bcast_S8x100_S8x100x1_0_1 k))
      (broadcastInDim S8x100x4 ![] bcast_S_S8x100x4 (constantI S_ 32 0#32)))
    (addi (broadcastInDim S8x100x4 ![0, 1, 2] bcast_S8x100x1_S8x100x4_0_1_2 (broadcastInDim S8x100x1 ![0, 1] bcast_S8x100_S8x100x1_0_1 k))
      (broadcastInDim S8x100x4 ![] bcast_S_S8x100x4 (constantI S_ 32 20000#32)))
    (broadcastInDim S8x100x4 ![0, 1, 2] bcast_S8x100x1_S8x100x4_0_1_2 (broadcastInDim S8x100x1 ![0, 1] bcast_S8x100_S8x100x1_0_1 k)))
    shapeCasts_S8x100x4_S8x100x4x1

/-- Whether they are in range. -/
def refInRange (i : IVec S8x100x4x1 32) : IVec S8x100x4 1 :=
  Host.reduce IntOp.andi (andi (cmpi .sge i (broadcastInDim S8x100x4x1 ![] bcast_S_S8x100x4x1 (constantI S_ 32 0#32)))
    (cmpi .sle i (broadcastInDim S8x100x4x1 ![0, 1, 2, 3] bcast_S1x1x1x1_S8x100x4x1_0_1_2_3
      (broadcastInDim S1x1x1x1 ![3] bcast_S1_S1x1x1x1_3 (constantI S1 32 19999#32)))))
    (constantI S_ 1 1#1) reducesTo_S8x100x4x1_S8x100x4_d3 h_S_

/-- The rows' boxes, by number. -/
def refTake (x : FVec Ideal S8x20000x4 .f32) (i : IVec S8x100x4x1 32) : FVec Ideal S8x100x4 .f32 :=
  select (refInRange i) (Host.gather gather_S8x20000x4_S8x100x4x1_S8x100x4_n_1_02_02_1_3_111 x i)
    (broadcastInDim S8x100x4 ![] bcast_S_S8x100x4 (constant (F := Ideal) S_ .f32 0x7FC00000#32))

theorem refWrapped_at (k : IVec S8x100 32) (b : Fin 8) (j : Fin 100) (e : Fin 4) (r : Fin 20000) (h : k (ix2 b j) = BitVec.ofNat 32 r.val) :
    refWrapped k (ix4 b j e 0) = BitVec.ofNat 32 r.val := by
  have hr := r.isLt
  unfold refWrapped
  pointwise []
  rw [h, slt_zero _ (by omega)]
  rfl

theorem refInRange_at (i : IVec S8x100x4x1 32) (R : Fin 8 → Fin 100 → Fin 20000) (hi : ∀ b j e, i (ix4 b j e 0) = BitVec.ofNat 32 (R b j).val)
    (j : S8x100x4.Idx) : refInRange i j = 1#1 := by
  refine reduce_ones _ _ _ _ (fun x => ?_) (fun _ => rfl) j
  obtain ⟨b, k, e, z, rfl⟩ : ∃ (b : Fin 8) (k : Fin 100) (e : Fin 4) (z : Fin 1), x = ix4 b k e z := ⟨x 0, x 1, x 2, x 3, eq_ix4 x⟩
  obtain rfl : z = 0 := Subsingleton.elim _ _
  have h := (R b k).isLt
  show IntOp.andi (IntOp.cmpi .sge (i (ix4 b k e 0)) 0#32) (IntOp.cmpi .sle (i (ix4 b k e 0)) (BitVec.ofNat 32 19999)) = 1#1
  rw [hi, sge_zero _ (by omega), sle_const _ _ (by omega) (by decide)]
  rfl

theorem refTake_at (x : FVec Ideal S8x20000x4 .f32) (i : IVec S8x100x4x1 32) (R : Fin 8 → Fin 100 → Fin 20000)
    (hi : ∀ b j e, i (ix4 b j e 0) = BitVec.ofNat 32 (R b j).val) (b : Fin 8) (j : Fin 100) (e : Fin 4) :
    refTake x i (ix3 b j e) = x (ix3 b (R b j) e) := by
  show Scalar.select (refInRange i (ix3 b j e))
    (Host.gather gather_S8x20000x4_S8x100x4x1_S8x100x4_n_1_02_02_1_3_111 x i (ix3 b j e)) _ = _
  rw [refInRange_at i R hi]
  exact gather_entries _ x i b j e (R b j) (hi b j e)

/-! ## The boxes -/

/-- The boxes at the positions `k`. -/
def refBoxes (x : FVec Ideal S8x20000x4 .f32) (z : FVec Ideal S8x2 .f32) (k : IVec S8x100 32) : FVec Ideal S8x100x4 .f32 :=
  mulf (refTake (refCorners x) (refWrapped (refRows k))) (refScale z)

theorem refCorners_at (x : FVec Ideal S8x20000x4 .f32) (b : Fin 8) (r : Fin 20000) (e : Fin 4) :
    refCorners x (ix3 b r e)
      = (![x (ix3 b r 0) - Ideal.ofBits .f32 0x3F000000#32 * x (ix3 b r 2), x (ix3 b r 1) - Ideal.ofBits .f32 0x3F000000#32 * x (ix3 b r 3),
          x (ix3 b r 0) + Ideal.ofBits .f32 0x3F000000#32 * x (ix3 b r 2), x (ix3 b r 1) + Ideal.ofBits .f32 0x3F000000#32 * x (ix3 b r 3)]
          : Fin 4 → EReal) e := by
  have ec : ∀ z : FVec Ideal S8x20000 .f32, refColumn z (ix3 b r 0) = z (ix2 b r) := by
    intro z; unfold refColumn; pointwise []
  refine (fn57_at _ _ _ _ b r e).trans ?_
  rw [ec, ec, ec, ec, subf_apply, subf_apply, addf_apply, addf_apply, refHalf_at, refHalf_at]
  have h0 := refCoord_at 0 x slices_S8x20000x4_S8x20000x1_0_0_0 b r
  have h1 := refCoord_at 1 x slices_S8x20000x4_S8x20000x1_0_0_1 b r
  have h2 := refCoord_at 2 x slices_S8x20000x4_S8x20000x1_0_0_2 b r
  have h3 := refCoord_at 3 x slices_S8x20000x4_S8x20000x1_0_0_3 b r
  exact congrFun (congr (congr (congr (congrArg (fun (p q r s : EReal) => (![p - Ideal.ofBits .f32 0x3F000000#32 * r,
    q - Ideal.ofBits .f32 0x3F000000#32 * s, p + Ideal.ofBits .f32 0x3F000000#32 * r, q + Ideal.ofBits .f32 0x3F000000#32 * s] : Fin 4 → EReal))
    h0) h1) h2) h3) e

theorem refScale_at (z : FVec Ideal S8x2 .f32) (b : Fin 8) (k : Fin 100) (e : Fin 4) :
    refScale z (ix3 b k e) = (![z (ix2 b 1), z (ix2 b 0), z (ix2 b 1), z (ix2 b 0)] : Fin 4 → EReal) e := by
  have ec : ∀ y : FVec Ideal S8x4 .f32, broadcastInDim S8x100x4 ![0, 1, 2] bcast_S8x1x4_S8x100x4_0_1_2
      (broadcastInDim S8x1x4 ![0, 2] bcast_S8x4_S8x1x4_0_2 y) (ix3 b k e) = y (ix2 b e) := by
    intro y; pointwise []
  refine (ec _).trans ((fn70_at _ _ _ _ b e).trans ?_)
  have h0 := refSize_at 0 z slices_S8x2_S8x1_0_0 b
  have h1 := refSize_at 1 z slices_S8x2_S8x1_0_1 b
  exact congrFun (congr (congrArg (fun (p q : EReal) => (![p, q, p, q] : Fin 4 → EReal)) h1) h0) e

/-- The boxes at positions known as numbers: the corners of the rows' boxes, scaled. -/
theorem refBoxes_at (x : FVec Ideal S8x20000x4 .f32) (z : FVec Ideal S8x2 .f32) (k : IVec S8x100 32) (P : Fin 8 → Fin 100 → Fin 1820000)
    (hk : ∀ b j, k (ix2 b j) = BitVec.ofNat 32 (P b j).val) (b : Fin 8) (j : Fin 100) (e : Fin 4) :
    refBoxes x z k (ix3 b j e)
      = cornerOf (x (ix3 b (rowOf (P b j)) 0)) (x (ix3 b (rowOf (P b j)) 1)) (x (ix3 b (rowOf (P b j)) 2)) (x (ix3 b (rowOf (P b j)) 3))
          (z (ix2 b 0)) (z (ix2 b 1)) e := by
  have hr : ∀ b j, refRows k (ix2 b j) = BitVec.ofNat 32 (rowOf (P b j)).val := fun b j =>
    refRows_at k _ (hk b j) (by have := (P b j).isLt; omega)
  unfold refBoxes cornerOf
  rw [mulf_apply, refTake_at _ _ (fun b j => rowOf (P b j)) (fun b j e => refWrapped_at _ b j e _ (hr b j)), refCorners_at, refScale_at]
  fin_cases e <;> rfl

end Cert.TopRank
end
-- ==== Proof.RefRun.lean ====
/-
  THE REFERENCE'S RUN. Every fair run of the reference ends with the answer in its three result arrays and its arguments as launched.
-/
module

public import proofs.«01_k».proof.Proof.RefBoxes

@[expose] public section

set_option maxRecDepth 16384

noncomputable section

namespace Cert.TopRank

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ) (ρ : Dev nD → PrngReg) (c : Dev nD)

/-- The reference's table of probabilities. -/
def refTab : Fin 8 → Fin 20000 → Fin 91 → EReal :=
  refSpec (m ((c.tc : Thread nD τ).loc main_arg0)) (m ((c.tc : Thread nD τ).loc main_arg2))

/-- The positions the reference selects, as words. -/
def refPos : IVec S8x100 32 := (refTop (m ((c.tc : Thread nD τ).loc main_arg0)) (m ((c.tc : Thread nD τ).loc main_arg2))).2

theorem refPos_at (b : Fin 8) (k : Fin 100) : refPos m c (ix2 b k) = BitVec.ofNat 32 (posAt (refTab m c) b k).val :=
  (refTop_at _ _ b k).2

theorem labels_term : res_main_v32 m c = refLabels (refPos m c) := rfl

theorem boxes_term : res_main_v73 m c
    = refBoxes (m ((c.tc : Thread nD τ).loc main_arg1)) (sitofp (F := Ideal) .f32 (m ((c.tc : Thread nD τ).loc main_arg3) : IVec S8x2 32))
        (refPos m c) := rfl

/-- The boxes by image, row and coordinate. -/
def refB (b : Fin 8) (r : Fin 20000) (e : Fin 4) : EReal :=
  (m ((c.tc : Thread nD τ).loc main_arg1) : FVec Ideal S8x20000x4 .f32) (ix3 b r e)

/-- The images' sizes as numbers. -/
def refT (b : Fin 8) (e : Fin 2) : EReal :=
  (sitofp (F := Ideal) .f32 (m ((c.tc : Thread nD τ).loc main_arg3) : IVec S8x2 32) : FVec Ideal S8x2 .f32) (ix2 b e)

theorem ref_scores : (refTop (m ((c.tc : Thread nD τ).loc main_arg0)) (m ((c.tc : Thread nD τ).loc main_arg2))).1
    = fun i => scoreAt (refTab m c) (i 0) (i 1) := by
  funext i
  obtain ⟨b, k, rfl⟩ : ∃ (b : Fin 8) (k : Fin 100), i = ix2 b k := ⟨i 0, i 1, eq_ix2 i⟩
  exact (refTop_at _ _ b k).1

theorem ref_labels : refLabels (refPos m c) = fun i => labelAt (refTab m c) (i 0) (i 1) := by
  funext i
  obtain ⟨b, k, rfl⟩ : ∃ (b : Fin 8) (k : Fin 100), i = ix2 b k := ⟨i 0, i 1, eq_ix2 i⟩
  exact refLabels_at _ _ (refPos_at m c b k) (by have := (posAt (refTab m c) b k).isLt; omega)

theorem ref_boxes : refBoxes (m ((c.tc : Thread nD τ).loc main_arg1))
      (sitofp (F := Ideal) .f32 (m ((c.tc : Thread nD τ).loc main_arg3) : IVec S8x2 32)) (refPos m c)
    = fun i => boxAt (refTab m c) (refB m c) (refT m c) (i 0) (i 1) (i 2) := by
  funext i
  obtain ⟨b, k, e, rfl⟩ : ∃ (b : Fin 8) (k : Fin 100) (e : Fin 4), i = ix3 b k e := ⟨i 0, i 1, i 2, eq_ix3 i⟩
  exact refBoxes_at _ _ _ _ (refPos_at m c) b k e

/-- Every fair run of the reference from a launched memory ends with the scores, labels and boxes of the answer in its three result
    arrays, and its four arguments unchanged. -/
theorem reference_run : θ_run defs (onTc (τ := τ) (main (F := Ideal))) ⟨m, fun _ => 0, ρ⟩ (fun r => ∀ c : Dev nD,
      r.2.mem ((c.tc : Thread nD τ).loc main_values) = (fun i => scoreAt (refTab m c) (i 0) (i 1) : Vec Ideal S8x100 .f32)
      ∧ r.2.mem ((c.tc : Thread nD τ).loc main_v32) = (fun i => labelAt (refTab m c) (i 0) (i 1) : Vec Ideal S8x100 .i32)
      ∧ r.2.mem ((c.tc : Thread nD τ).loc main_v73)
        = (fun i => boxAt (refTab m c) (refB m c) (refT m c) (i 0) (i 1) (i 2) : Vec Ideal S8x100x4 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    obtain ⟨h0, h1, h2, ha⟩ := h c
    exact ⟨h0.trans (ref_scores m c), h1.trans ((labels_term m c).trans (ref_labels m c)),
      h2.trans ((boxes_term m c).trans (ref_boxes m c)), ha⟩) (run m ρ)

end Cert.TopRank
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- THE REFERENCE'S FRAME: every run of the reference in ideal arithmetic is done, with no deadlock and no undefined
    behavior, keeps its arguments, and leaves its semaphores at zero. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- THE RESULTS: from the same arguments the kernel and the reference, in ideal arithmetic, end with the same scores, labels and boxes,
    and both keep their arguments. -/
theorem algebraic_results : Cert.algebraic_KernelIdeal_ReferenceIdeal := by
  intro m g m' g' _ h
  refine ⟨_, _, _, Cert.TopRank.kernel_run m g, ?_⟩
  have et : ∀ c, Cert.TopRank.refTab m' c = Cert.TopRank.table m c := by
    intro c
    unfold Cert.TopRank.refTab
    rw [(h c).1, (h c).2.2.1]
    rfl
  have eb : ∀ c, Cert.TopRank.refB m' c = Cert.TopRank.boxes m c := by
    intro c
    unfold Cert.TopRank.refB
    rw [(h c).2.1]
    rfl
  have es : ∀ c, Cert.TopRank.refT m' c = Cert.TopRank.sizes m c := by
    intro c
    unfold Cert.TopRank.refT
    rw [(h c).2.2.2]
    rfl
  refine (θ_run Cert.ReferenceIdeal.defs _ _).mono (fun r hr c => ?_) (Cert.TopRank.reference_run m' g')
  have hc := hr c
  rw [et, eb, es] at hc
  exact hc

/-- THE CLAIM. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic_results⟩

end Cert.Proof

end
